-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![512, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S128x2048 : Shape := ⟨2, ![128, 2048]⟩
abbrev S3x64x2048 : Shape := ⟨3, ![3, 64, 2048]⟩
abbrev S3 : Shape := ⟨1, ![3]⟩
abbrev S_ : Shape := ⟨0, ![]⟩
abbrev S64x2048 : Shape := ⟨2, ![64, 2048]⟩
abbrev S1x64x2048 : Shape := ⟨3, ![1, 64, 2048]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S128x2048, .f32⟩
  | .local _ .vmem, ⟨0, _⟩ => ⟨S512x512, .bf16⟩
  | .local _ .vmem, ⟨1, _⟩ => ⟨S512x2048, .bf16⟩
  | .local _ .vmem, ⟨2, _⟩ => ⟨S128x2048, .f32⟩
  | .local _ .vmem, ⟨3, _⟩ => ⟨S512x2048, .bf16⟩
  | .local _ .vmem, ⟨4, _⟩ => ⟨S3x64x2048, .bf16⟩
  | .local _ .vmem, ⟨5, _⟩ => ⟨S3x64x2048, .bf16⟩
  | .local _ .vmem, ⟨6, _⟩ => ⟨S3x64x2048, .bf16⟩
  | .local _ .vmem, ⟨7, _⟩ => ⟨S3x64x2048, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 2 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v22 : BitVec 32 := Scalar.addi v2 c4_i32_15
  let c1_i32_16 : BitVec 32 := 1#32
  let v23 : BitVec 32 := Scalar.subi v22 c1_i32_16
  let c4_i32_17 : BitVec 32 := 4#32
  let v24 : BitVec 32 := Scalar.remsi v23 c4_i32_17
  let c128_i32 : BitVec 32 := 128#32
  let v25 : BitVec 32 := Scalar.muli v24 c128_i32
  let v26 : Index := Scalar.indexCast v25
  let c0_18 : Index := 0#32
  ![v26.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v31 : BitVec 32 := Scalar.addi v2 c1_i32_22
  let c4_i32_23 : BitVec 32 := 4#32
  let v32 : BitVec 32 := Scalar.remsi v31 c4_i32_23
  let c128_i32_24 : BitVec 32 := 128#32
  let v33 : BitVec 32 := Scalar.muli v32 c128_i32_24
  let c64_i32 : BitVec 32 := 64#32
  let v34 : BitVec 32 := Scalar.addi v33 c64_i32
  let v35 : Index := Scalar.indexCast v34
  let c0_25 : Index := 0#32
  ![v35.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_33 : BitVec 32 := 1#32
  let v40 : BitVec 32 := Scalar.muli v7 c1_i32_33
  let v41 : BitVec 32 := Scalar.addi c0_i32_34 v40
  v41.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_43 : BitVec 32 := 1#32
  let v50 : BitVec 32 := Scalar.muli v5 c1_i32_43
  let v51 : BitVec 32 := Scalar.addi c0_i32_44 v50
  v51.toNat
def k0_off3 (d0 : Dev nD) (c0_i32_70 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v76 : BitVec 32 := Scalar.addi v2 c8_i32
  let c2_i32_69 : BitVec 32 := 2#32
  let v77 : BitVec 32 := Scalar.subi v76 c2_i32_69
  let v78 : BitVec 32 := Scalar.subi v77 c0_i32_70
  let c4_i32_71 : BitVec 32 := 4#32
  let v79 : BitVec 32 := Scalar.remsi v78 c4_i32_71
  let c128_i32_78 : BitVec 32 := 128#32
  let v85 : BitVec 32 := Scalar.muli v79 c128_i32_78
  let v86 : Index := Scalar.indexCast v85
  let c0_79 : Index := 0#32
  ![v86.toNat, 0]
def k0_off4 (d0 : Dev nD) (c0_i32_73 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_72 : BitVec 32 := 2#32
  let v80 : BitVec 32 := Scalar.addi v2 c2_i32_72
  let v81 : BitVec 32 := Scalar.addi v80 c0_i32_73
  let c4_i32_74 : BitVec 32 := 4#32
  let v82 : BitVec 32 := Scalar.remsi v81 c4_i32_74
  let c128_i32_85 : BitVec 32 := 128#32
  let v94 : BitVec 32 := Scalar.muli v82 c128_i32_85
  let c64_i32_86 : BitVec 32 := 64#32
  let v95 : BitVec 32 := Scalar.addi v94 c64_i32_86
  let v96 : Index := Scalar.indexCast v95
  let c0_87 : Index := 0#32
  ![v96.toNat, 0]
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_95 : BitVec 32 := 1#32
  let v102 : BitVec 32 := Scalar.muli v7 c1_i32_95
  let v103 : BitVec 32 := Scalar.addi c0_i32_96 v102
  v103.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_105 : BitVec 32 := 1#32
  let v112 : BitVec 32 := Scalar.muli v5 c1_i32_105
  let v113 : BitVec 32 := Scalar.addi c0_i32_106 v112
  v113.toNat
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_158 : BitVec 32 := 1#32
  let v164 : BitVec 32 := Scalar.muli v7 c1_i32_158
  let v165 : BitVec 32 := Scalar.addi c0_i32_159 v164
  v165.toNat
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_168 : BitVec 32 := 1#32
  let v174 : BitVec 32 := Scalar.muli v5 c1_i32_168
  let v175 : BitVec 32 := Scalar.addi c0_i32_169 v174
  v175.toNat
def k0_dev9 (d0 : Dev nD) : Nat :=
  let c0_i32_271_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_270_r0 : BitVec 32 := 1#32
  let v261_r0 : BitVec 32 := Scalar.muli v5 c1_i32_270_r0
  let v262_r0 : BitVec 32 := Scalar.addi c0_i32_271_r0 v261_r0
  v262_r0.toNat
def k0_dev10 (d0 : Dev nD) : Nat :=
  let c0_i32_274_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_273_r0 : BitVec 32 := 1#32
  let v263_r0 : BitVec 32 := Scalar.muli v7 c1_i32_273_r0
  let v264_r0 : BitVec 32 := Scalar.addi c0_i32_274_r0 v263_r0
  v264_r0.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .bf16⟩
  | .hbm, ⟨3, _⟩ => ⟨S512x2048, .f32⟩
  | .hbm, ⟨4, _⟩ => ⟨S512x2048, .bf16⟩
  | .hbm, ⟨5, _⟩ => ⟨S512x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.RingIdealProtocol.lean ====
/-
The protocol of the two-way ring reduce-scatter, before any program is run.

A direction is a `Bool`: `true` goes from a device to the next one of the ring, `false` to the previous one. The hops
of a direction are numbered 0, 1, 2. Each device has, per direction, a sending buffer and a landing buffer of three
slots, one slot a hop, and per slot one semaphore that says the sending slot was read and one that says the landing
slot was filled. Two more semaphores per device count neighbours: the entry barrier and the exit barrier.

  semaphore          waits      raised by                      how much        hands over
  entry barrier c    c, for 2   both neighbours of c           1 each          the landing slots of the neighbour that c sends into
  sent d s, at c     c          c's own transfer of hop s      slot's bytes    c's sending slot, as it was sent
  landed d s, at c   c          the hop-s transfer of c's      slot's bytes    c's landing slot, holding what the neighbour sent
                                neighbour against d
  exit barrier c     c, for 2   both neighbours of c           1 each          nothing

This file defines the buffers, the semaphores, what every slot holds, the schedule of the rounds library that states
the table above, and what every device still owes the others at each point of its program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring.FamCut
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's part and the ring's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: any memory, every semaphore at zero, any generator registers. -/
def s₀ : MemSt nD τ sig (Elt F) := ⟨m, fun _ => 0, ρ⟩

/-! ## The ring -/

set_option backward.proofsInPublic true in
/-- The neighbour of `c` in direction `d`. -/
def nbr (d : Bool) (c : Dev nD) : Dev nD := ⟨(c.val + bif d then 1 else 3) % 4, Nat.mod_lt _ (by decide)⟩

/-- Going one way and then the other comes back. -/
theorem nbr_back (d : Bool) (c : Dev nD) : nbr (!d) (nbr d c) = c := by revert d c; decide
theorem nbr_forth (d : Bool) (c : Dev nD) : nbr d (nbr (!d) c) = c := by revert d c; decide

/-- The rotation of the ring in direction `d`. -/
def turn (d : Bool) : Dev nD ≃ Dev nD := ⟨nbr d, nbr (!d), nbr_back d, nbr_forth d⟩

set_option backward.proofsInPublic true in
/-- The row block whose part device `c` adds at hop `k` of direction `d` (`k = 3`: its own, into the result). -/
def blkOf (d : Bool) (c : Dev nD) (k : ℕ) : Dev nD := ⟨(c.val + (k + 1) * bif d then 3 else 1) % 4, Nat.mod_lt _ (by decide)⟩

/-! ## Buffers, slots, semaphores -/

/-- The four slot buffers: by direction, and sending (`false`) or landing (`true`). -/
abbrev bufM : Bool → Bool → Memref sig .tc .vmem S3x64x2048 .bf16
  | true, false => Memref.whole cc0_scratch1
  | false, false => Memref.whole cc0_scratch2
  | true, true => Memref.whole cc0_scratch3
  | false, true => Memref.whole cc0_scratch4

theorem slot_inb (s : Fin 3) : ∀ a, (![s.val, 0, 0] : Fin 3 → ℕ) a + S1x64x2048.size a ≤ S3x64x2048.size a := by revert s; decide

/-- Slot `s` as a box of its buffer, and as a matrix. -/
abbrev slotR (s : Fin 3) : Rect S3x64x2048 := Rect.unit (s := S3x64x2048) ![s.val, 0, 0] S1x64x2048.size (slot_inb s)
abbrev slotM (d r : Bool) (s : Fin 3) : Memref sig .tc .vmem S64x2048 .bf16 :=
  ((bufM d r).slice (slotR s) (fun _ => rfl)).squeeze S64x2048 squeezes_S1x64x2048_S64x2048

theorem xS_lt (d r : Bool) (s : Fin 3) : 3 + (bif d then 0 else 6) + (bif r then 3 else 0) + s.val < 15 := by revert d r s; decide
/-- The slot's semaphore. -/
abbrev xS (d r : Bool) (s : Fin 3) : DmaSem sig := ⟨3 + (bif d then 0 else 6) + (bif r then 3 else 0) + s.val, xS_lt d r s⟩

/-- The entry barrier, which outlives the launch, and the exit barrier, which is the launch's own. -/
abbrev barS : Sem sig := (SemArray.scalar (sig.barrier 0 rfl) : Sems sig S_).sem
abbrev endS : Sem sig := (cc0_scoped0 : Sems sig S_).sem

/-- Which slot a transfer semaphore is of. -/
def dirOf (q : DmaSem sig) : Bool := decide (q.val < 9)
def landOf (q : DmaSem sig) : Bool := decide ((q.val - 3) / 3 % 2 = 1)
def hopOf (q : DmaSem sig) : Fin 3 := ⟨q.val % 3, Nat.mod_lt _ (by decide)⟩
theorem dirOf_xS (d r : Bool) (s : Fin 3) : dirOf (xS d r s) = d := by revert d r s; decide
theorem landOf_xS (d r : Bool) (s : Fin 3) : landOf (xS d r s) = r := by revert d r s; decide
theorem hopOf_xS (d r : Bool) (s : Fin 3) : hopOf (xS d r s) = s := by revert d r s; decide

/-- The fourteen semaphores of the protocol (entry barrier, exit barrier, then the twelve slots'), and the thirteen of them
    that are the launch's own. -/
def csem (k : Fin 14) : SemLoc sig :=
  if k.val = 0 then .reg barS else if k.val = 1 then .reg endS else .dma ⟨k.val + 1, Nat.lt_of_lt_of_le (Nat.succ_lt_succ k.isLt) (by decide)⟩
abbrev osem (k : Fin 13) : SemLoc sig := csem k.succ
abbrev kcell (ck : Dev nD × Fin 14) : GSem nD τ sig := ((ck.1 : Thread nD τ), csem ck.2)

theorem xK_lt (d r : Bool) (s : Fin 3) : 2 + (bif d then 0 else 6) + (bif r then 3 else 0) + s.val < 14 := by revert d r s; decide
/-- A slot's semaphore among the fourteen. -/
abbrev xK (d r : Bool) (s : Fin 3) : Fin 14 := ⟨2 + (bif d then 0 else 6) + (bif r then 3 else 0) + s.val, xK_lt d r s⟩
theorem csem_xK (d r : Bool) (s : Fin 3) : csem (xK d r s) = .dma (xS d r s) := by revert d r s; decide

/-- What a whole slot's transfer raises a semaphore by. -/
abbrev N : ℕ := (slotM true true 0).view.dmaCredit
theorem N_pos : 0 < N := View.dmaCredit_pos _ (by decide)

/-! ## Contents -/

/-- The blocks of `x` and `dy` device `c` is given, as they are staged. -/
def xstg (c : Dev nD) : (cc0_stg0_0 : Ref sig .tc).ty.Contents (Elt F) :=
  (win0_0.blk (0 : Fin 1)).view.read (Elt F) ((s₀ m ρ).mem ((c : Thread nD τ).loc main_arg0))
def ystg (c : Dev nD) : (cc0_stg1_0 : Ref sig .tc).ty.Contents (Elt F) :=
  (win0_1.blk (0 : Fin 1)).view.read (Elt F) ((s₀ m ρ).mem ((c : Thread nD τ).loc main_arg1))

/-- Device `c`'s own product. -/
def prodAt (c : Dev nD) : Vec F S512x2048 .bf16 := k0_pay1 (xstg m ρ c) (ystg m ρ c)

theorem half_inb (d : Bool) (j : Dev nD) : ∀ a, (![128 * j.val + (bif d then 0 else 64), 0] : Fin 2 → ℕ) a + S64x2048.size a ≤ S512x2048.size a := by
  revert d j; decide

/-- The half of row block `j` that travels in direction `d`: its first 64 rows or its last 64. -/
abbrev halfR (d : Bool) (j : Dev nD) : Rect S512x2048 := Rect.unit (s := S512x2048) ![128 * j.val + (bif d then 0 else 64), 0] S64x2048.size (half_inb d j)
def rowsOf (d : Bool) (j : Dev nD) (p : Vec F S512x2048 .bf16) : Vec F S64x2048 .bf16 :=
  (Memref.whole cc0_scratch0 : Memref sig .tc .vmem S512x2048 .bf16).view.readAt (Elt F) (halfR d j).toLoadRect p

/-- What device `c` has after hop `k` of direction `d`: what its neighbour against `d` had one hop earlier, plus its own part. -/
def acc (d : Bool) : ℕ → Dev nD → Vec F S64x2048 .bf16
  | 0, c => rowsOf d (blkOf d c 0) (prodAt m ρ c)
  | k + 1, c => addf (acc d k (nbr (!d) c)) (rowsOf d (blkOf d c (k + 1)) (prodAt m ρ c))

/-- A memref held in full on a core, reading `v`; at some contents. -/
abbrev slotAt (c : Dev nD) (M : Memref sig .tc .vmem S64x2048 .bf16) (v : Vec F S64x2048 .bf16) : sProp 𝕄 :=
  owns (c : Thread nD τ) M fullShare v
def slotAny (c : Dev nD) (M : Memref sig .tc .vmem S64x2048 .bf16) : sProp 𝕄 := iprop(∃ v : Vec F S64x2048 .bf16, slotAt c M v)

/-- What a slot's semaphore hands its waiter: the sending slot as sent, the landing slot as the neighbour sent it. -/
def slotPay (d r : Bool) (s : Fin 3) (c : Dev nD) : sProp 𝕄 := slotAt c (slotM d r s) (acc m ρ d s.val (bif r then nbr (!d) c else c))

/-- The landing slots of `c`'s neighbour in direction `d`, into which `c` sends. -/
def targets (d : Bool) (c : Dev nD) : sProp 𝕄 := bigSep Finset.univ fun s : Fin 3 => slotAny (nbr d c) (slotM d true s)

omit [FloatOps F] in
instance slotAny_storable (c : Dev nD) (M) : BI.Storable (upEmb : UEmb _ 𝕄) (slotAny (F := F) c M) := by unfold slotAny; infer_instance
instance slotPay_storable (d r s c) : BI.Storable (upEmb : UEmb _ 𝕄) (slotPay (F := F) m ρ d r s c) := by unfold slotPay; infer_instance
omit [FloatOps F] in
instance targets_storable (d c) : BI.Storable (upEmb : UEmb _ 𝕄) (targets (F := F) d c) := by unfold targets; infer_instance

/-! ## The schedule -/

/-- The table of the header. Every semaphore has one round; a barrier has two duties of one unit, duty `b` paid by the neighbour
    that reaches this device in direction `b`; a slot's semaphore one duty, `false`, of the slot's bytes. -/
def sched : Rounds.Schedule (GSem nD τ sig) Bool 𝕄 where
  duties g r := if r = 0 ∧ g.1.2 = .tc then (match g.2 with | .reg _ => Finset.univ | .dma q => if 3 ≤ q.val then {false} else ∅) else ∅
  unitless _ := False
  amount g _ _ := match g.2 with | .reg _ => 1 | .dma _ => N
  payload g _ b := match g.2 with
    | .reg q => if q = barS then targets (!b) g.1.1 else iprop(emp)
    | .dma q => slotPay m ρ (dirOf q) (landOf q) (hopOf q) g.1.1
  amount_pos g _ _ _ := by rcases g with ⟨t, q | q⟩; exacts [Nat.one_pos, N_pos]

instance sched_payload_storable (g : GSem nD τ sig) (r : ℕ) (b : Bool) :
    BI.Storable (upEmb : UEmb _ 𝕄) ((sched (F := F) m ρ).payload g r b) := by
  rcases g with ⟨t, q | q⟩
  · show BI.Storable upEmb (if q = barS then targets (!b) t.1 else iprop(emp)); split <;> infer_instance
  · show BI.Storable upEmb (slotPay m ρ (dirOf q) (landOf q) (hopOf q) t.1); infer_instance

section Sched
variable (c : Dev nD)

abbrev regCell (q : Sem sig) (c : Dev nD) : GSem nD τ sig := ((c : Thread nD τ), .reg q)
abbrev xCell (d r : Bool) (s : Fin 3) (c : Dev nD) : GSem nD τ sig := ((c : Thread nD τ), .dma (xS d r s))

theorem duties_reg (q : Sem sig) : (sched (F := F) m ρ).duties (regCell q c) 0 = Finset.univ := by
  dsimp only [sched]; exact if_pos ⟨rfl, rfl⟩
theorem duties_x (d r : Bool) (s : Fin 3) : (sched (F := F) m ρ).duties (xCell d r s c) 0 = {false} := by
  dsimp only [sched]; rw [if_pos ⟨rfl, rfl⟩, if_pos (by omega)]
/-- There is no second round. -/
theorem duties_later (g : GSem nD τ sig) : ∀ r, 1 ≤ r → (sched (F := F) m ρ).duties g r = ∅ :=
  fun r hr => by dsimp only [sched]; rw [if_neg fun h => by omega]
theorem amount_reg (q : Sem sig) (b : Bool) : (sched (F := F) m ρ).amount (regCell q c) 0 b = 1 := rfl
theorem amount_x (d r : Bool) (s : Fin 3) (b : Bool) : (sched (F := F) m ρ).amount (xCell d r s c) 0 b = N := rfl
theorem expect_reg (q : Sem sig) : (sched (F := F) m ρ).expect (regCell q c) 0 = 2 := by
  unfold Schedule.expect Schedule.amountOf
  rw [duties_reg, Finset.sum_congr rfl fun b _ => amount_reg m ρ c q b, Finset.sum_const, Finset.card_univ, Fintype.card_bool, smul_eq_mul]
theorem expect_x (d r : Bool) (s : Fin 3) : (sched (F := F) m ρ).expect (xCell d r s c) 0 = N := by
  unfold Schedule.expect Schedule.amountOf; rw [duties_x, Finset.sum_singleton, amount_x]
theorem payload_bar (b : Bool) : (sched (F := F) m ρ).payload (regCell barS c) 0 b = targets (!b) c := by
  dsimp only [sched]; exact if_pos rfl
theorem payload_end (b : Bool) : (sched (F := F) m ρ).payload (regCell endS c) 0 b = iprop(emp) := by
  dsimp only [sched]; exact if_neg (by decide)
theorem payload_x (d r : Bool) (s : Fin 3) (b : Bool) : (sched (F := F) m ρ).payload (xCell d r s c) 0 b = slotPay m ρ d r s c := by
  dsimp only [sched]; rw [dirOf_xS, landOf_xS, hopOf_xS]

/-- All that the entry barrier hands over: the slots `c` will send into, both ways. -/
theorem rest_bar : bigSep ((sched (F := F) m ρ).duties (regCell barS c) 0 \ ∅) (fun b => (sched (F := F) m ρ).payload (regCell barS c) 0 b)
    = iprop(targets true c ∗ targets false c) := by
  rw [Finset.sdiff_empty, duties_reg, bigSep_univ_eq_bigSepL [false, true] (by decide) (by decide), bigSepL_cons_cons, bigSepL_singleton,
    payload_bar, payload_bar]
  rfl
theorem rest_x (d r : Bool) (s : Fin 3) : bigSep ((sched (F := F) m ρ).duties (xCell d r s c) 0 \ ∅) (fun b => (sched (F := F) m ρ).payload (xCell d r s c) 0 b)
    = slotPay m ρ d r s c := by
  rw [Finset.sdiff_empty, duties_x, bigSep_singleton, payload_x]

end Sched

/-! ## What a device owes, and the levels -/

/-- A device's payments to its neighbours in program order: to which neighbour, on which semaphore, how much. -/
def dues : List (Bool × SemLoc sig × ℕ) :=
  [(false, .reg barS, 1), (true, .reg barS, 1),
   (true, .dma (xS true true 0), N), (false, .dma (xS false true 0), N),
   (true, .dma (xS true true 1), N), (false, .dma (xS false true 1), N),
   (true, .dma (xS true true 2), N), (false, .dma (xS false true 2), N),
   (false, .reg endS, 1), (true, .reg endS, 1)]

/-- What device `c` owes when the payments in the list are still to be made. -/
def owed (c : Dev nD) : List (Bool × SemLoc sig × ℕ) → CellTallies nD τ sig Unit
  | [] => 0
  | p :: l => owed c l + tallyAt ((nbr p.1 c : Thread nD τ), p.2.1) () p.2.2

def L (g : GSem nD τ sig) : Finset Unit := if g.1.2 = .tc then {()} else ∅
/-- A semaphore's level: staging and sent slots lowest, then the entry barrier, the landings hop by hop, the exit barrier. -/
def lvS : SemLoc sig → ℕ
  | .reg q => if q = barS then 1 else 8
  | .dma q => bif landOf q then 2 + (hopOf q).val else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- What is owed is owed to a semaphore named in the list. -/
theorem owed_pos {c : Dev nD} {g : GSem nD τ sig} {u : Unit} : ∀ {l : List (Bool × SemLoc sig × ℕ)}, 0 < owed c l g u →
    ∃ p ∈ l, g = ((nbr p.1 c : Thread nD τ), p.2.1)
  | [], h => absurd h (Nat.lt_irrefl 0)
  | p :: l, h => by
    unfold owed at h
    rw [Pi.add_apply, Finsupp.add_apply, tallyAt_apply] at h
    by_cases hp : g = ((nbr p.1 c : Thread nD τ), p.2.1) ∧ u = ()
    · exact ⟨p, List.mem_cons_self, hp.1⟩
    · rw [if_neg hp, Nat.add_zero] at h
      obtain ⟨p', h1, h2⟩ := owed_pos h
      exact ⟨p', List.mem_cons_of_mem _ h1, h2⟩

omit [FloatOps F] in
/-- A device may wait on a semaphore whose level is below every payment it still has to make. -/
theorem mayWait (c : Dev nD) (sm : SemLoc sig) (l : List (Bool × SemLoc sig × ℕ)) (h : ∀ p ∈ l, lvS sm < lvS p.2.1) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨p, -, rfl⟩ := owed_pos hg; exact Finset.mem_singleton_self _)
    (fun p hp => by rw [Finset.mem_singleton.mp hp]; exact le_refl _)
    (fun g u hg => by obtain ⟨p, hp, rfl⟩ := owed_pos hg; exact h p hp)

/-! ## The protocol's state on one device -/

/-- The records every device shares, under the names `K`: every semaphore's invariant, and that its round 0 is open. -/
def records (K : Dev nD × Fin 14 → ℕ) : sProp 𝕄 :=
  iprop((bigSep Finset.univ fun ck : Dev nD × Fin 14 => cellInv ER (sched m ρ) (K ck) (kcell ck))
    ∗ bigSep Finset.univ fun ck : Dev nD × Fin 14 => reached ER (kcell ck) 0)

instance records_persistent (K : Dev nD × Fin 14 → ℕ) : BI.Persistent (records m ρ K) := by unfold records; infer_instance

theorem inv_of (K : Dev nD × Fin 14 → ℕ) (ck : Dev nD × Fin 14) {g : GSem nD τ sig} (hg : kcell ck = g) :
    records m ρ K ⊢ cellInv ER (sched m ρ) (K ck) g := by
  subst hg; unfold records; iintro ⟨H, -⟩
  iapply (show (bigSep Finset.univ fun ck : Dev nD × Fin 14 => (cellInv ER (sched m ρ) (K ck) (kcell ck) : sProp 𝕄)) ⊢ cellInv ER (sched m ρ) (K ck) (kcell ck)
    from bigSep_elim (Finset.mem_univ ck)); iexact H
theorem reached_of (K : Dev nD × Fin 14 → ℕ) (ck : Dev nD × Fin 14) {g : GSem nD τ sig} (hg : kcell ck = g) :
    records m ρ K ⊢ reached ER g 0 := by
  subst hg; unfold records; iintro ⟨-, H⟩
  iapply (show (bigSep Finset.univ fun ck : Dev nD × Fin 14 => (reached ER (kcell ck) 0 : sProp 𝕄)) ⊢ reached ER (kcell ck) 0
    from bigSep_elim (Finset.mem_univ ck)); iexact H

theorem kcell_x (d r : Bool) (s : Fin 3) (c : Dev nD) : kcell (c, xK d r s) = xCell d r s c := by
  show ((c : Thread nD τ), csem (xK d r s)) = _; rw [csem_xK]
theorem kcell_bar (c : Dev nD) : kcell (c, 0) = regCell barS c := rfl
theorem kcell_end (c : Dev nD) : kcell (c, 1) = regCell endS c := rfl

/-- The device to which device `c` pays duty `b` of semaphore `k`: the neighbour in direction `b` for a barrier, the neighbour in the
    slot's direction for a landing, itself for a sent slot. -/
def payee (k : Fin 14) (b : Bool) : Dev nD ≃ Dev nD :=
  if k.val < 2 then turn b else if (k.val - 2) / 3 % 2 = 1 then turn (decide (k.val < 8)) else Equiv.refl _

theorem payee_bar (b : Bool) (c : Dev nD) : payee 0 b c = nbr b c := rfl
theorem payee_end (b : Bool) (c : Dev nD) : payee 1 b c = nbr b c := rfl
theorem payee_land (d : Bool) (s : Fin 3) (c : Dev nD) : payee (xK d true s) false c = nbr d c := by revert d s c; decide
theorem payee_sent (d : Bool) (s : Fin 3) (c : Dev nD) : payee (xK d false s) false c = c := by revert d s c; decide

end Cert.KernelIdeal.Ring

end
-- ==== Proof.RingIdealSteps.lean ====
/-
One rule per kind of effect of the kernel's body, each stated once for every direction, hop and device: reading and
writing a slot, raising a neighbour's barrier, waiting on a barrier, sending a slot, waiting for a slot.
-/
module

public import proofs.«01_k».proof.Proof.RingIdealProtocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Slots read and written -/

theorem slot_set (d r : Bool) (s : Fin 3) : (slotM d r s).view.set = ((bufM d r).access (slotR s)).set := View.set_reshape _ _

omit [FloatOps F] in
/-- A slot's contents are its box's, without the leading axis. -/
theorem slot_read (d r : Bool) (s : Fin 3) (f : (bufM d r).view.ty.Contents (Elt F)) :
    (slotM d r s).view.read (Elt F) f
      = shapeCast S64x2048 (((bufM d r).access (slotR s)).read (Elt F) f) shapeCasts_S1x64x2048_S64x2048 := rfl

omit [FloatOps F] in
/-- Writing a slot's box and reading the slot gives what was written, without the leading axis. -/
theorem read_written (d r : Bool) (s : Fin 3) (f : (bufM d r).view.ty.Contents (Elt F)) (w : Vec F S1x64x2048 .bf16) :
    (slotM d r s).view.read (Elt F) (((bufM d r).access (slotR s)).write (Elt F) f w Finset.univ)
      = shapeCast S64x2048 w shapeCasts_S1x64x2048_S64x2048 := by
  rw [slot_read, View.read_write_univ]

/-- A load of a slot's box, the slot held at `v`: what is read is `v` with a leading axis. -/
theorem wp_load_slot {α : Type} {Q : α → sProp 𝕄} (c : Dev nD) (d r : Bool) (s : Fin 3) (v : Vec F S64x2048 .bf16)
    {hl : (bufM d r).view.LoadsAt (slotR s).toLoadRect} {k : Vec F S1x64x2048 .bf16 → Prog (TpuEff nD τ sig (Elt F) Λ₀ .tc) α} :
    slotAt c (slotM d r s) v
      ⊢ iprop((∀ w : Vec F S1x64x2048 .bf16, (⌜shapeCast S64x2048 w shapeCasts_S1x64x2048_S64x2048 = v⌝ ∗ slotAt c (slotM d r s) v)
            -∗ wp frame (wpE (defs₀ (F := F)) 𝒱₀ (c : Thread nD τ) none) Set.univ (k w) Q)
          -∗ wp frame (wpE (defs₀ (F := F)) 𝒱₀ (c : Thread nD τ) none) Set.univ (.op (.load (bufM d r) (slotR s).toLoadRect hl) k) Q) := by
  unfold slotAt owns
  iintro ⟨%f, %hf, H⟩ Hk
  iapply (wp_load_rect 𝒱₀ (c : Thread nD τ) none Set.univ (m := bufM d r) (r := slotR s) (S := (slotM d r s).view.set)
    (by rw [slot_set])) $$ H
  iintro H
  iapply Hk
  isplitr
  · ipureintro
    rw [← hf]
    exact (slot_read d r s f).symm
  · iexists f
    isplitr; · (ipureintro; exact hf)
    iexact H

/-- A store over a slot's box: the slot then holds what was stored, without the leading axis. -/
theorem wp_store_slot {α : Type} {Q : α → sProp 𝕄} (c : Dev nD) (d r : Bool) (s : Fin 3) (w : Vec F S1x64x2048 .bf16)
    {hx : ((bufM d r).access (slotR s)).Stores Finset.univ} {hm : (Finset.univ : Finset (slotR s).shape.Idx) = Finset.univ ∨ ∀ a, (slotR s).stride a = 1}
    {k : PUnit → Prog (TpuEff nD τ sig (Elt F) Λ₀ .tc) α} :
    slotAny c (slotM d r s)
      ⊢ iprop((slotAt c (slotM d r s) (shapeCast S64x2048 w shapeCasts_S1x64x2048_S64x2048)
            -∗ wp frame (wpE (defs₀ (F := F)) 𝒱₀ (c : Thread nD τ) none) Set.univ (k ⟨⟩) Q)
          -∗ wp frame (wpE (defs₀ (F := F)) 𝒱₀ (c : Thread nD τ) none) Set.univ (.op (.store (bufM d r) (slotR s) w Finset.univ hx hm) k) Q) := by
  unfold slotAny slotAt owns
  iintro ⟨%v, %f, %hf, H⟩ Hk
  iapply (wp_store 𝒱₀ (c : Thread nD τ) none Set.univ (m := bufM d r) (r := slotR s) (Mk := Finset.univ) (S := (slotM d r s).view.set)
    (by rw [View.setOn_univ, slot_set])) $$ H
  iintro H
  iapply Hk
  iexists (((bufM d r).access (slotR s)).write (Elt F) f w Finset.univ)
  isplitr; · (ipureintro; exact read_written d r s f w)
  iexact H

/-- A load of a slot's box whose value nothing uses. -/
theorem wp_peek_slot {α : Type} {Q : α → sProp 𝕄} (c : Dev nD) (d r : Bool) (s : Fin 3)
    {hl : (bufM d r).view.LoadsAt (slotR s).toLoadRect} {k : Vec F S1x64x2048 .bf16 → Prog (TpuEff nD τ sig (Elt F) Λ₀ .tc) α}
    {p : Prog (TpuEff nD τ sig (Elt F) Λ₀ .tc) α} (hk : ∀ w, k w = p) :
    slotAny c (slotM d r s)
      ⊢ iprop((slotAny c (slotM d r s) -∗ wp frame (wpE (defs₀ (F := F)) 𝒱₀ (c : Thread nD τ) none) Set.univ p Q)
          -∗ wp frame (wpE (defs₀ (F := F)) 𝒱₀ (c : Thread nD τ) none) Set.univ (.op (.load (bufM d r) (slotR s).toLoadRect hl) k) Q) := by
  unfold slotAny
  iintro ⟨%v, H⟩ Hk
  iapply (wp_load_slot c d r s v) $$ H
  iintro %w ⟨-, H⟩
  rw [hk w]
  iapply Hk
  iexists v; iexact H

/-! ## The barriers -/

variable (K : Dev nD × Fin 14 → ℕ)

/-- A signal to the neighbour in direction `b` on a barrier: it pays duty `b` there, with that duty's payload. -/
theorem wp_signal_nbr {α : Type} {Q : α → sProp 𝕄} (c n : Dev nD) (b : Bool) (hn : n = nbr b c) (k : Fin 14) (q : Sem sig) (hk : csem k = .reg q)
    (l : List (Bool × SemLoc sig × ℕ)) (W : Waits sig Unit) {kk : PUnit → Prog (TpuEff nD τ sig (Elt F) Λ₀ .tc) α} :
    iprop(records m ρ K ∗ owes (c : Thread nD τ) (owed c ((b, .reg q, 1) :: l)) W ∗ dutyTok ER (regCell q (nbr b c)) 0 b
        ∗ (sched (F := F) m ρ).payload (regCell q (nbr b c)) 0 b)
      ⊢ iprop((owes (c : Thread nD τ) (owed c l) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) q 1) kk) Q) := by
  subst hn
  have hg : kcell (nbr b c, k) = regCell q (nbr b c) := by show ((nbr b c : Thread nD τ), csem k) = _; rw [hk]
  iintro ⟨#HR, HO, Ht, Hp⟩ Hk
  iapply (Rounds.wp_signal 𝒱₀ ER (sched m ρ) (c : Thread nD τ) none (dst := (nbr b c : Thread nD τ)) (κ := K (nbr b c, k))
      (d := b) (by rw [duties_reg]; exact Finset.mem_univ _) (amount_reg m ρ (nbr b c) q b) () (owed c l) rfl) $$ [HO Ht Hp]
  · isplitr; · iapply (inv_of m ρ K (nbr b c, k) hg); iexact HR
    isplitl [HO]; · iexact HO
    isplitl [Ht]; · iexact Ht
    isplitl [Hp]; · iexact Hp
    iapply (reached_of m ρ K (nbr b c, k) hg); iexact HR
  iexact Hk

/-- The wait for both neighbours on one's own barrier: both payloads. -/
theorem wp_wait_nbrs {α : Type} {Q : α → sProp 𝕄} (c : Dev nD) (k : Fin 14) (q : Sem sig) (hk : csem k = .reg q)
    (l : List (Bool × SemLoc sig × ℕ)) (hl : ∀ p ∈ l, lvS (.reg q) < lvS p.2.1) (W : Waits sig Unit)
    {kk : PUnit → Prog (TpuEff nD τ sig (Elt F) Λ₀ .tc) α} :
    iprop(records m ρ K ∗ levAts L lv ∗ cred (tallyAt (regCell q c) () 2) ∗ owes (c : Thread nD τ) (owed c l) W ∗ atPos ER (regCell q c) 0 ∅ 0)
      ⊢ iprop(((owes (c : Thread nD τ) (owed c l) (insert (SemLoc.reg q, ()) W) ∗ atPos ER (regCell q c) (0 + 1) ∅ 0
            ∗ bigSep ((sched (F := F) m ρ).duties (regCell q c) 0 \ ∅) (fun b => (sched (F := F) m ρ).payload (regCell q c) 0 b))
              -∗ wp frame (wpE (defs₀ (F := F)) 𝒱₀ (c : Thread nD τ) none) Set.univ (kk ⟨⟩) Q)
          -∗ wp frame (wpE (defs₀ (F := F)) 𝒱₀ (c : Thread nD τ) none) Set.univ (.op (.semWait q 2) kk) Q) := by
  have hg : kcell (c, k) = regCell q c := by show ((c : Thread nD τ), csem k) = _; rw [hk]
  iintro ⟨#HR, #Hlev, Hc, HO, Hat⟩ Hk
  iapply (Rounds.wp_wait_rest_token 𝒱₀ ER (sched m ρ) (c : Thread nD τ) none (κ := K (c, k))
      (wpE_semWait_eq 𝒱₀ (c : Thread nD τ) none Set.univ) (Set.mem_univ _) () (O := owed c l) (W := W) (R := 0) (m := 0) (T := ∅)
      (by rw [expect_reg])) $$ [Hc HO Hat]
  · isplitr; · iapply (inv_of m ρ K (c, k) hg); iexact HR
    isplitl [Hc]; · iexact Hc
    isplitl [HO]; · iexact HO
    isplitr; · iapply (mayWait c (.reg q) l hl); iexact Hlev
    iexact Hat
  iintro ⟨HO, Hat, -, Hp⟩
  iapply Hk
  isplitl [HO]; · iexact HO
  isplitl [Hat]; · iexact Hat
  iexact Hp

/-! ## The transfers -/

/-- Hop `s` of direction `d`, device `c`'s part of it: its positions at the two semaphores of its slots, the two duties its
    transfer pays, and the credit for the landing it waits for. -/
def hopStart (d : Bool) (s : Fin 3) (c : Dev nD) : sProp 𝕄 :=
  iprop(atPos ER (xCell d false s c) 0 ∅ 0 ∗ atPos ER (xCell d true s c) 0 ∅ 0
    ∗ dutyTok ER (xCell d false s c) 0 false ∗ dutyTok ER (xCell d true s (nbr d c)) 0 false ∗ cred (tallyAt (xCell d true s c) () N))
/-- The same once the transfer is under way, then once the landing was waited for, then once the sent slot was. -/
def hopSent (d : Bool) (s : Fin 3) (c : Dev nD) : sProp 𝕄 :=
  iprop(atPos ER (xCell d false s c) 0 ∅ 0 ∗ atPos ER (xCell d true s c) 0 ∅ 0
    ∗ cred (tallyAt (xCell d false s c) () N) ∗ cred (tallyAt (xCell d true s c) () N))
def hopLanded (d : Bool) (s : Fin 3) (c : Dev nD) : sProp 𝕄 :=
  iprop(atPos ER (xCell d false s c) 0 ∅ 0 ∗ cred (tallyAt (xCell d false s c) () N) ∗ atPos ER (xCell d true s c) (0 + 1) ∅ 0)
def hopDone (d : Bool) (s : Fin 3) (c : Dev nD) : sProp 𝕄 :=
  iprop(atPos ER (xCell d false s c) (0 + 1) ∅ 0 ∗ atPos ER (xCell d true s c) (0 + 1) ∅ 0)

omit [FloatOps F] in
/-- A memref's elements held at contents reading `v` are the memref held at `v`. -/
theorem slotAt_intro (c : Dev nD) (M : Memref sig .tc .vmem S64x2048 .bf16) {v : Vec F S64x2048 .bf16} (f : Buf (Elt F) (M.view.loc (c : Thread nD τ)))
    (h : M.view.read (Elt F) f = v) : (M.view.loc (c : Thread nD τ) ↦[M.view.set]{fullShare} f : sProp 𝕄) ⊢ slotAt c M v := by
  subst h; exact owns_intro (c : Thread nD τ) M fullShare f

/-- The transfer of hop `s` in direction `d`: from `c`'s sending slot, holding what `c` has after that hop, into its neighbour's
    landing slot. -/
theorem wp_send_hop {α : Type} {Q : α → sProp 𝕄} (c n : Dev nD) (d : Bool) (s : Fin 3) (hn : n = nbr d c)
    {qs qr : DmaSem sig} (hqs : qs = xS d false s) (hqr : qr = xS d true s)
    {src dst : Memref sig .tc .vmem S64x2048 .bf16} (hsM : src = slotM d false s) (hdM : dst = slotM d true s)
    {hsc : (dst : Memref sig (Dev.tc n : Thread nD τ).2.kind .vmem S64x2048 .bf16).view.ref.isScScratch = false}
    {hsrc : src.view.WordExact} {hdst : dst.view.WordExact}
    {hsem : DmaTarget.Typed .vmem (.dma qr) (.remote (Dev.tc n : Thread nD τ) dst (.dma qs) hsc)}
    (l : List (Bool × SemLoc sig × ℕ)) (W : Waits sig Unit) {k : PUnit → Prog (TpuEff nD τ sig (Elt F) Λ₀ .tc) α} :
    iprop(records m ρ K ∗ slotAt c (slotM d false s) (acc m ρ d s.val c) ∗ slotAny (nbr d c) (slotM d true s)
        ∗ owes (c : Thread nD τ) (owed c ((d, .dma (xS d true s), N) :: l)) W ∗ hopStart d s c)
      ⊢ iprop(((hopSent d s c ∗ owes (c : Thread nD τ) (owed c l) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hqs hqr hsM hdM
  unfold slotAny hopStart hopSent slotAt owns
  iintro ⟨#HR, ⟨%fs, %hfs, Hs⟩, ⟨%v, %fd, -, Hd⟩, HO, HaS, HaR, HtS, HtR, Hc⟩ Hk
  iapply (Rounds.wp_send_pointsTo 𝒱₀ ER (sched m ρ) (c : Thread nD τ) none (κ₁ := K (c, xK d false s)) (κ₂ := K (nbr d c, xK d true s))
    (r₁ := 0) (r₂ := 0) (d₁ := false) (d₂ := false) (fs := fs) (fd := fd)
    (by rw [duties_x]; exact Finset.mem_singleton_self _) (by rw [duties_x]; exact Finset.mem_singleton_self _)
    () () N (by cases d <;> rfl) (amount_x m ρ c d false s false) (amount_x m ρ (nbr d c) d true s false) (owed c l) rfl (W := W)
    (by rw [payload_x]; exact slotAt_intro c (slotM d false s) fs hfs)
    (by rw [payload_x]
        exact slotAt_intro (nbr d c) (slotM d true s) _ ((View.read_write_univ _ _).trans (by rw [cond_true, nbr_back]; exact hfs)))) $$ [Hs Hd HO HtS HtR]
  · isplitr; · iapply (inv_of m ρ K (c, xK d false s) (kcell_x d false s c)); iexact HR
    isplitr; · iapply (inv_of m ρ K (nbr d c, xK d true s) (kcell_x d true s (nbr d c))); iexact HR
    isplitl [Hs]; · iexact Hs
    isplitl [Hd]; · iexact Hd
    isplitl [HO]; · iexact HO
    isplitl [HtS]; · iexact HtS
    isplitr; · iapply (reached_of m ρ K (c, xK d false s) (kcell_x d false s c)); iexact HR
    isplitl [HtR]; · iexact HtR
    iapply (reached_of m ρ K (nbr d c, xK d true s) (kcell_x d true s (nbr d c))); iexact HR
  iintro ⟨HcS, HO⟩
  iapply Hk
  isplitr [HO]
  · isplitl [HaS]; · iexact HaS
    isplitl [HaR]; · iexact HaR
    isplitl [HcS]; · iexact HcS
    iexact Hc
  iexact HO

/-- A wait on one of a device's own slot semaphores: the slot, as the table hands it over. -/
theorem wp_wait_slot {α : Type} {Q : α → sProp 𝕄} (c : Dev nD) (d r : Bool) (s : Fin 3) {q : DmaSem sig} (hq : q = xS d r s)
    {src dst : Memref sig .tc .vmem S64x2048 .bf16} {d' r' : Bool} (hdM : dst = slotM d' r' s)
    (l : List (Bool × SemLoc sig × ℕ)) (hl : ∀ p ∈ l, lvS (.dma (xS d r s)) < lvS p.2.1) (W : Waits sig Unit)
    {hsrc : src.view.WordExact} {hdst : dst.view.WordExact} {k : PUnit → Prog (TpuEff nD τ sig (Elt F) Λ₀ .tc) α} :
    iprop(records m ρ K ∗ levAts L lv ∗ owes (c : Thread nD τ) (owed c l) W ∗ cred (tallyAt (xCell d r s c) () N) ∗ atPos ER (xCell d r s c) 0 ∅ 0)
      ⊢ iprop(((owes (c : Thread nD τ) (owed c l) (insert (SemLoc.dma (xS d r s), ()) W) ∗ atPos ER (xCell d r s c) (0 + 1) ∅ 0 ∗ slotPay m ρ d r s c)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq hdM
  iintro ⟨#HR, #Hlev, HO, Hc, Hat⟩ Hk
  iapply (Rounds.wp_wait_rest_token 𝒱₀ ER (sched m ρ) (c : Thread nD τ) none (κ := K (c, xK d r s))
      (wpE_waitDma2_eq 𝒱₀ (c : Thread nD τ) none Set.univ) (Set.mem_univ _) () (O := owed c l) (W := W) (R := 0) (m := 0) (T := ∅)
      (by rw [Nat.zero_add, expect_x])) $$ [Hc HO Hat]
  · isplitr; · iapply (inv_of m ρ K (c, xK d r s) (kcell_x d r s c)); iexact HR
    isplitl [Hc]; · iexact Hc
    isplitl [HO]; · iexact HO
    isplitr; · iapply (mayWait c (.dma (xS d r s)) l hl); iexact Hlev
    iexact Hat
  iintro ⟨HO, Hat, -, Hp⟩
  iapply Hk
  isplitl [HO]; · iexact HO
  isplitl [Hat]; · iexact Hat
  iapply (Entails.of_eq (rest_x m ρ c d r s)); iexact Hp

end Cert.KernelIdeal.Ring

end
-- ==== Proof.RingIdealMoves.lean ====
/-
The moves the body is made of, each stated once for every direction, hop and device: reading rows of the device's own
product, filling the first sending slot, adding a landing to the device's own rows into the next sending slot, adding
the last landing into the result, and the two waits of a hop. Also the cutting of a slot buffer into its three slots
and back, and what the result's two half stores leave.
-/
module

public import proofs.«01_k».proof.Proof.RingIdealSteps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The device's own product, and its rows -/

/-- Device `c`'s product buffer, holding its product. -/
def prodHeld (c : Dev nD) : sProp 𝕄 := iprop(((c : Thread nD τ).loc cc0_scratch0) ↦{fullShare} (prodAt m ρ c))

/-- A load of 64 rows of the product buffer at the start of a half block reads that half block of the product. -/
theorem wp_rows {α : Type} {Q : α → sProp 𝕄} (c : Dev nD) (d : Bool) (j : Dev nD) (off : Fin S512x2048.rank → ℕ)
    (hoff : off = ![128 * j.val + (bif d then 0 else 64), 0]) {inb : ∀ a, off a + S64x2048.size a ≤ S512x2048.size a}
    {hl : (Memref.whole cc0_scratch0 : Memref sig .tc .vmem S512x2048 .bf16).view.LoadsAt (Rect.unit (s := S512x2048) off S64x2048.size inb).toLoadRect}
    {k : Vec F S64x2048 .bf16 → Prog (TpuEff nD τ sig (Elt F) Λ₀ .tc) α} :
    prodHeld m ρ c
      ⊢ iprop((prodHeld m ρ c -∗ wp frame (wpE (defs₀ (F := F)) 𝒱₀ (c : Thread nD τ) none) Set.univ (k (rowsOf d j (prodAt m ρ c))) Q)
          -∗ wp frame (wpE (defs₀ (F := F)) 𝒱₀ (c : Thread nD τ) none) Set.univ
              (.op (.load (Memref.whole cc0_scratch0) (Rect.unit (s := S512x2048) off S64x2048.size inb).toLoadRect hl) k) Q) := by
  subst hoff
  unfold prodHeld
  exact wp_load 𝒱₀ (c : Thread nD τ) none Set.univ (m := (Memref.whole cc0_scratch0 : Memref sig .tc .vmem S512x2048 .bf16)) (Finset.subset_univ _)

/-! ## Filling and adding -/

/-- The first sending slot is filled with the device's own rows. -/
theorem wp_fill {α : Type} {Q : α → sProp 𝕄} (c : Dev nD) (d : Bool) (pay : Vec F S64x2048 .bf16 → Vec F S1x64x2048 .bf16)
    (hpay : ∀ v, shapeCast S64x2048 (pay v) shapeCasts_S1x64x2048_S64x2048 = v)
    {hl : (bufM d false).view.LoadsAt (slotR 0).toLoadRect}
    {hx : ((bufM d false).access (slotR 0)).Stores Finset.univ} {hm : (Finset.univ : Finset (slotR 0).shape.Idx) = Finset.univ ∨ ∀ a, (slotR 0).stride a = 1}
    {k : PUnit → Prog (TpuEff nD τ sig (Elt F) Λ₀ .tc) α} :
    slotAny c (slotM d false 0)
      ⊢ iprop((slotAt c (slotM d false 0) (acc m ρ d 0 c) -∗ wp frame (wpE (defs₀ (F := F)) 𝒱₀ (c : Thread nD τ) none) Set.univ (k ⟨⟩) Q)
          -∗ wp frame (wpE (defs₀ (F := F)) 𝒱₀ (c : Thread nD τ) none) Set.univ
              (.op (.load (bufM d false) (slotR 0).toLoadRect hl) fun _ =>
                .op (.store (bufM d false) (slotR 0) (pay (rowsOf d (blkOf d c 0) (prodAt m ρ c))) Finset.univ hx hm) k) Q) := by
  iintro H Hk
  iapply (wp_peek_slot c d false 0 (fun _ => rfl)) $$ H
  iintro H
  iapply (wp_store_slot c d false 0 _) $$ H
  rw [hpay]
  iexact Hk

/-- A landing is added to the device's own rows into the next sending slot. -/
theorem wp_add_hop {α : Type} {Q : α → sProp 𝕄} (c : Dev nD) (d : Bool) (s s' : Fin 3) (hs : s'.val = s.val + 1)
    (off : Fin S512x2048.rank → ℕ) (hoff : off = ![128 * (blkOf d c (s.val + 1)).val + (bif d then 0 else 64), 0])
    {inb : ∀ a, off a + S64x2048.size a ≤ S512x2048.size a}
    (pay : Vec F S1x64x2048 .bf16 → Vec F S64x2048 .bf16 → Vec F S1x64x2048 .bf16)
    (hpay : ∀ v r, shapeCast S64x2048 (pay v r) shapeCasts_S1x64x2048_S64x2048 = addf (shapeCast S64x2048 v shapeCasts_S1x64x2048_S64x2048) r)
    {hl₁ : (bufM d true).view.LoadsAt (slotR s).toLoadRect}
    {hl₂ : (Memref.whole cc0_scratch0 : Memref sig .tc .vmem S512x2048 .bf16).view.LoadsAt (Rect.unit (s := S512x2048) off S64x2048.size inb).toLoadRect}
    {hl₃ : (bufM d false).view.LoadsAt (slotR s').toLoadRect}
    {hx : ((bufM d false).access (slotR s')).Stores Finset.univ} {hm : (Finset.univ : Finset (slotR s').shape.Idx) = Finset.univ ∨ ∀ a, (slotR s').stride a = 1}
    {k : PUnit → Prog (TpuEff nD τ sig (Elt F) Λ₀ .tc) α} :
    iprop(slotPay m ρ d true s c ∗ slotAny c (slotM d false s') ∗ prodHeld m ρ c)
      ⊢ iprop(((slotAny c (slotM d true s) ∗ slotAt c (slotM d false s') (acc m ρ d s'.val c) ∗ prodHeld m ρ c)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (bufM d true) (slotR s).toLoadRect hl₁) fun v =>
                .op (.load (Memref.whole cc0_scratch0) (Rect.unit (s := S512x2048) off S64x2048.size inb).toLoadRect hl₂) fun r =>
                .op (.load (bufM d false) (slotR s').toLoadRect hl₃) fun _ =>
                .op (.store (bufM d false) (slotR s') (pay v r) Finset.univ hx hm) k) Q) := by
  unfold slotPay
  simp only [cond_true]
  iintro ⟨Hl, Hs, Hp⟩ Hk
  iapply (wp_load_slot c d true s (acc m ρ d s.val (nbr (!d) c))) $$ Hl
  iintro %w ⟨%hw, Hl⟩
  iapply (wp_rows m ρ c d (blkOf d c (s.val + 1)) off hoff) $$ Hp
  iintro Hp
  iapply (wp_peek_slot c d false s' (fun _ => rfl)) $$ Hs
  iintro Hs
  iapply (wp_store_slot c d false s' _) $$ Hs
  rw [hpay, hw, hs]
  iintro Hs
  iapply Hk
  isplitl [Hl]; · unfold slotAny; iexists _; iexact Hl
  isplitl [Hs]; · iexact Hs
  iexact Hp

/-! ## The result -/

/-- The row of its half that a row of a 128-row block is. -/
def halfIdx (i : S128x2048.Idx) : S64x2048.Idx :=
  fun a => ⟨(i a).val % S64x2048.size a, Nat.mod_lt _ (by revert a; decide)⟩

/-- Two halves of 64 rows, one above the other. -/
def stacked (hi lo : Vec F S64x2048 .f32) : Vec F S128x2048 .f32 :=
  fun i => if (i 0).val < 64 then hi (halfIdx i) else lo (halfIdx i)

/-- Device `c`'s result: each direction's accumulation after its last hop, widened, one above the other. -/
def outAt (c : Dev nD) : Vec F S128x2048 .f32 :=
  stacked (extf .f32 (acc m ρ true 3 c) bitsLt_bf16_f32) (extf .f32 (acc m ρ false 3 c) bitsLt_bf16_f32)

theorem out_inb (d : Bool) : ∀ a, (![bif d then 0 else 64, 0] : Fin 2 → ℕ) a + S64x2048.size a ≤ S128x2048.size a := by revert d; decide
/-- The half of the result that direction `d` fills. -/
abbrev outR (d : Bool) : Rect S128x2048 := Rect.unit (s := S128x2048) ![bif d then 0 else 64, 0] S64x2048.size (out_inb d)
abbrev outM : Memref sig .tc .vmem S128x2048 .f32 := Memref.whole cc0_stg2_0

omit [FloatOps F] in
/-- The two half stores fill the result, whatever it held. -/
theorem stacked_eq (f : outM.view.ty.Contents (Elt F)) (hi lo : Vec F S64x2048 .f32) :
    (outM.access (outR false)).write (Elt F) ((outM.access (outR true)).write (Elt F) f hi Finset.univ) lo Finset.univ = stacked hi lo := by
  funext i
  have hi1 : (i 1).val < 2048 := (i 1).isLt
  have hi0 : (i 0).val < 128 := (i 0).isLt
  unfold stacked
  have hmem : ∀ d : Bool, (bif d then 0 else 64) ≤ (i 0).val → (i 0).val < (bif d then 0 else 64) + 64 →
      (outM.access (outR d)).emb (halfIdx i) = i := by
    intro d h1 h2
    funext a; apply Fin.ext
    show (![bif d then 0 else 64, 0] : Fin 2 → ℕ) a + 1 * ((i a).val % S64x2048.size a) = (i a).val
    fin_cases a
    · show (bif d then 0 else 64) + 1 * ((i 0).val % 64) = (i 0).val
      cases d <;> simp only [cond_true, cond_false] at h1 h2 ⊢ <;> omega
    · show 0 + 1 * ((i 1).val % 2048) = (i 1).val
      omega
  split
  · next h =>
    rw [View.write_of_not_mem]
    · conv_lhs => rw [← hmem true (by simp) (by simpa using h)]
      rw [View.write_emb_of_mem _ _ (Finset.mem_univ _)]
      rfl
    · rw [View.setOn_univ, View.set_slice, Finset.mem_map]
      rintro ⟨j, hj, rfl⟩
      have := (Rect.mem_set_unit.mp hj 0).1
      have h' : (j 0).val < 64 := h
      simp at this
      omega
  · next h =>
    conv_lhs => rw [← hmem false (by simp; omega) (by simp; omega)]
    rw [View.write_emb_of_mem _ _ (Finset.mem_univ _)]
    rfl

/-- The result buffer whole, at contents `f`. -/
abbrev outHeld (c : Dev nD) (f : outM.view.ty.Contents (Elt F)) : sProp 𝕄 := iprop(((c : Thread nD τ).loc cc0_stg2_0) ↦{fullShare} f)

/-- The last landing is added to the device's own rows into its half of the result. -/
theorem wp_add_out {α : Type} {Q : α → sProp 𝕄} (c : Dev nD) (d : Bool) (f : outM.view.ty.Contents (Elt F))
    (off : Fin S512x2048.rank → ℕ) (hoff : off = ![128 * (blkOf d c 3).val + (bif d then 0 else 64), 0])
    {inb : ∀ a, off a + S64x2048.size a ≤ S512x2048.size a}
    (pay : Vec F S1x64x2048 .bf16 → Vec F S64x2048 .bf16 → Vec F S64x2048 .f32)
    (hpay : ∀ v r, pay v r = extf .f32 (addf (shapeCast S64x2048 v shapeCasts_S1x64x2048_S64x2048) r) bitsLt_bf16_f32)
    {hl₁ : (bufM d true).view.LoadsAt (slotR 2).toLoadRect}
    {hl₂ : (Memref.whole cc0_scratch0 : Memref sig .tc .vmem S512x2048 .bf16).view.LoadsAt (Rect.unit (s := S512x2048) off S64x2048.size inb).toLoadRect}
    {hl₃ : outM.view.LoadsAt (outR d).toLoadRect}
    {hx : (outM.access (outR d)).Stores Finset.univ} {hm : (Finset.univ : Finset (outR d).shape.Idx) = Finset.univ ∨ ∀ a, (outR d).stride a = 1}
    {k : PUnit → Prog (TpuEff nD τ sig (Elt F) Λ₀ .tc) α} :
    iprop(slotPay m ρ d true 2 c ∗ outHeld c f ∗ prodHeld m ρ c)
      ⊢ iprop(((slotAny c (slotM d true 2)
                ∗ outHeld c ((outM.access (outR d)).write (Elt F) f (extf .f32 (acc m ρ d 3 c) bitsLt_bf16_f32) Finset.univ) ∗ prodHeld m ρ c)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (bufM d true) (slotR 2).toLoadRect hl₁) fun v =>
                .op (.load (Memref.whole cc0_scratch0) (Rect.unit (s := S512x2048) off S64x2048.size inb).toLoadRect hl₂) fun r =>
                .op (.load outM (outR d).toLoadRect hl₃) fun _ =>
                .op (.store outM (outR d) (pay v r) Finset.univ hx hm) k) Q) := by
  unfold slotPay
  simp only [cond_true]
  iintro ⟨Hl, Ho, Hp⟩ Hk
  iapply (wp_load_slot c d true 2 (acc m ρ d (2 : Fin 3).val (nbr (!d) c))) $$ Hl
  iintro %w ⟨%hw, Hl⟩
  iapply (wp_rows m ρ c d (blkOf d c 3) off hoff) $$ Hp
  iintro Hp
  iapply (wp_load 𝒱₀ (c : Thread nD τ) none Set.univ (m := outM) (Finset.subset_univ _)) $$ Ho
  iintro Ho
  iapply (wp_store 𝒱₀ (c : Thread nD τ) none Set.univ (m := outM) (r := outR d) (Mk := Finset.univ) (Finset.subset_univ _)) $$ Ho
  rw [hpay, hw]
  iintro Ho
  iapply Hk
  isplitl [Hl]; · unfold slotAny; iexists _; iexact Hl
  isplitl [Ho]; · iexact Ho
  iexact Hp

/-! ## The waits of a hop -/

variable (K : Dev nD × Fin 14 → ℕ)

/-- The wait for a hop's landing. -/
theorem wp_landed_hop {α : Type} {Q : α → sProp 𝕄} (c : Dev nD) (d : Bool) (s : Fin 3) {q : DmaSem sig} (hq : q = xS d true s)
    {src dst : Memref sig .tc .vmem S64x2048 .bf16} (hdM : dst = slotM d true s)
    (l : List (Bool × SemLoc sig × ℕ)) (hl : ∀ p ∈ l, lvS (.dma (xS d true s)) < lvS p.2.1) (W : Waits sig Unit)
    {hsrc : src.view.WordExact} {hdst : dst.view.WordExact} {k : PUnit → Prog (TpuEff nD τ sig (Elt F) Λ₀ .tc) α} :
    iprop(records m ρ K ∗ levAts L lv ∗ owes (c : Thread nD τ) (owed c l) W ∗ hopSent d s c)
      ⊢ iprop(((owes (c : Thread nD τ) (owed c l) (insert (SemLoc.dma (xS d true s), ()) W) ∗ hopLanded d s c ∗ slotPay m ρ d true s c)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold hopSent hopLanded
  iintro ⟨#HR, #Hlev, HO, HaS, HaL, HcS, HcL⟩ Hk
  iapply (wp_wait_slot m ρ K c d true s hq hdM l hl W) $$ [HO HcL HaL]
  · isplitr; · iexact HR
    isplitr; · iexact Hlev
    isplitl [HO]; · iexact HO
    isplitl [HcL]; · iexact HcL
    iexact HaL
  iintro ⟨HO, HaL, Hp⟩
  iapply Hk
  isplitl [HO]; · iexact HO
  isplitr [Hp]
  · isplitl [HaS]; · iexact HaS
    isplitl [HcS]; · iexact HcS
    iexact HaL
  iexact Hp

/-- The wait for a hop's own transfer to have been read out. -/
theorem wp_sent_hop {α : Type} {Q : α → sProp 𝕄} (c : Dev nD) (d : Bool) (s : Fin 3) {q : DmaSem sig} (hq : q = xS d false s)
    {src dst : Memref sig .tc .vmem S64x2048 .bf16} (hdM : dst = slotM d false s)
    (l : List (Bool × SemLoc sig × ℕ)) (hl : ∀ p ∈ l, lvS (.dma (xS d false s)) < lvS p.2.1) (W : Waits sig Unit)
    {hsrc : src.view.WordExact} {hdst : dst.view.WordExact} {k : PUnit → Prog (TpuEff nD τ sig (Elt F) Λ₀ .tc) α} :
    iprop(records m ρ K ∗ levAts L lv ∗ owes (c : Thread nD τ) (owed c l) W ∗ hopLanded d s c)
      ⊢ iprop(((owes (c : Thread nD τ) (owed c l) (insert (SemLoc.dma (xS d false s), ()) W) ∗ hopDone d s c ∗ slotAny c (slotM d false s))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold hopDone hopLanded
  iintro ⟨#HR, #Hlev, HO, HaS, HcS, HaL⟩ Hk
  iapply (wp_wait_slot m ρ K c d false s hq hdM l hl W) $$ [HO HcS HaS]
  · isplitr; · iexact HR
    isplitr; · iexact Hlev
    isplitl [HO]; · iexact HO
    isplitl [HcS]; · iexact HcS
    iexact HaS
  iintro ⟨HO, HaS, Hp⟩
  iapply Hk
  isplitl [HO]; · iexact HO
  isplitr [Hp]
  · isplitl [HaS]; · iexact HaS
    iexact HaL
  unfold slotPay slotAny
  iexists _; iexact Hp

/-! ## Slot buffers cut and joined -/

/-- Where a slot buffer of device `c` lies, and which of its elements slot `s` is. -/
abbrev bufLoc (d r : Bool) (c : Dev nD) : Loc nD τ sig := (bufM d r).view.loc (c : Thread nD τ)
def slotSet (d r : Bool) (c : Dev nD) (s : Fin 3) : Finset (Idx (bufLoc d r c)) := (slotM d r s).view.set

/-- A slot buffer whole at some contents, its three slots, and what the slots leave of it. -/
def bufAny (d r : Bool) (c : Dev nD) : sProp 𝕄 := iprop(∃ f, bufLoc d r c ↦{fullShare} f)
def slotsOf (d r : Bool) (c : Dev nD) : sProp 𝕄 := bigSep Finset.univ fun s : Fin 3 => slotAny c (slotM d r s)
def bufRest (d r : Bool) (c : Dev nD) : sProp 𝕄 := iprop(∃ f, bufLoc d r c ↦[Ring.restOf (slotSet d r c)]{fullShare} f)

theorem slots_disjoint (d r : Bool) (c : Dev nD) (s s' : Fin 3) (h : s ≠ s') : Disjoint (slotSet d r c s) (slotSet d r c s') := by
  unfold slotSet
  rw [slot_set, slot_set, View.set_slice, View.set_slice]
  refine (Finset.disjoint_map _).mpr (Finset.disjoint_left.mpr fun i hi hi' => h (Fin.ext ?_))
  have h1 := Rect.mem_set_unit.mp hi 0
  have h2 := Rect.mem_set_unit.mp hi' 0
  have e1 : s.val ≤ (i 0).val ∧ (i 0).val < s.val + 1 := h1
  have e2 : s'.val ≤ (i 0).val ∧ (i 0).val < s'.val + 1 := h2
  omega

omit [FloatOps F] in
/-- A slot at some reading is its elements at some contents. -/
theorem slotAny_out (d r : Bool) (c : Dev nD) (s : Fin 3) :
    (slotAny c (slotM d r s) : sProp 𝕄) ⊢ iprop(∃ f, bufLoc d r c ↦[slotSet d r c s]{fullShare} f) := by
  unfold slotAny slotAt owns slotSet
  iintro ⟨%v, %f, -, H⟩; iexists f; iexact H
omit [FloatOps F] in
theorem slotAny_in (d r : Bool) (c : Dev nD) (s : Fin 3) :
    (iprop(∃ f, bufLoc d r c ↦[slotSet d r c s]{fullShare} f) : sProp 𝕄) ⊢ slotAny c (slotM d r s) := by
  unfold slotAny slotAt owns slotSet
  iintro ⟨%f, H⟩; iexists _; iexists f; isplitr; · (ipureintro; rfl)
  iexact H

omit [FloatOps F] in
theorem buf_cut (d r : Bool) (c : Dev nD) : (bufAny d r c : sProp 𝕄) ⊢ iprop(slotsOf d r c ∗ bufRest d r c) := by
  unfold bufAny slotsOf bufRest
  refine (Ring.fam_split_ex (slotSet d r c) (slots_disjoint d r c)).trans (sep_mono_left ?_)
  exact bigSep_mono (s := Finset.univ) fun s _ => slotAny_in d r c s

omit [FloatOps F] in
theorem buf_join (d r : Bool) (c : Dev nD) (f₀ : Buf (Elt F) (bufLoc d r c)) : iprop(slotsOf d r c ∗ bufRest d r c) ⊢ (bufAny d r c : sProp 𝕄) := by
  unfold bufAny slotsOf bufRest
  have h : (bigSep Finset.univ fun s : Fin 3 => (slotAny c (slotM d r s) : sProp 𝕄)) ⊢ bigSep Finset.univ fun s => iprop(∃ f, bufLoc d r c ↦[slotSet d r c s]{fullShare} f) :=
    bigSep_mono fun s _ => slotAny_out d r c s
  exact (sep_mono_left h).trans (Ring.fam_join (slotSet d r c) (slots_disjoint d r c) f₀)

end Cert.KernelIdeal.Ring

end
-- ==== Proof.RingIdealBody.lean ====
/-
What the body starts from and ends with. A device's share of every semaphore (its position, the tokens of the duties it
pays, its credit), regrouped by barrier and hop; the closing of every semaphore after its one round; what each device
holds before and after its body; and the rows and slots the program's offsets name.
-/
module

public import proofs.«01_k».proof.Proof.RingIdealMoves
public import proofs.«01_k».proof.Proof.Gen.KernelIdeal.Points

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's share of the fourteen semaphores -/

/-- What device `c`'s semaphore `k` is raised by from other devices: two units for a barrier, a slot's bytes for a landing. -/
def fromOthers (k : Fin 14) : ℕ := if k.val < 2 then 2 else if (k.val - 2) / 3 % 2 = 1 then N else 0

/-- Device `c`'s share at semaphore `k`: its position, the duties it pays, the credit for what the others raise. -/
def cellShare (c : Dev nD) (k : Fin 14) : sProp 𝕄 :=
  iprop(atPos ER (kcell (c, k)) 0 ∅ 0 ∗ (bigSep Finset.univ fun b : Bool => dutyTok ER (kcell (payee k b c, k)) 0 b)
    ∗ cred (tallyAt (kcell (c, k)) () (fromOthers k)))

/-- The same at a barrier, spelt out. -/
def barShare (q : Sem sig) (c : Dev nD) : sProp 𝕄 :=
  iprop(atPos ER (regCell q c) 0 ∅ 0 ∗ dutyTok ER (regCell q (nbr false c)) 0 false ∗ dutyTok ER (regCell q (nbr true c)) 0 true
    ∗ cred (tallyAt (regCell q c) () 2))

omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_cells (Φ : Fin 14 → sProp 𝕄) : bigSep Finset.univ Φ
    = iprop(Φ 0 ∗ Φ 1 ∗ Φ (xK true false 0) ∗ Φ (xK true false 1) ∗ Φ (xK true false 2) ∗ Φ (xK true true 0) ∗ Φ (xK true true 1) ∗ Φ (xK true true 2)
        ∗ Φ (xK false false 0) ∗ Φ (xK false false 1) ∗ Φ (xK false false 2) ∗ Φ (xK false true 0) ∗ Φ (xK false true 1) ∗ Φ (xK false true 2)) :=
  bigSep_univ_eq_bigSepL [0, 1, xK true false 0, xK true false 1, xK true false 2, xK true true 0, xK true true 1, xK true true 2,
    xK false false 0, xK false false 1, xK false false 2, xK false true 0, xK false true 1, xK false true 2] (by decide) (by decide) Φ

omit [FloatOps F] in
theorem barShare_of (c : Dev nD) (k : Fin 14) (q : Sem sig) (hk : k = 0 ∧ q = barS ∨ k = 1 ∧ q = endS) : (cellShare c k : sProp 𝕄) ⊢ barShare q c := by
  unfold cellShare barShare
  rw [bigSep_bool]
  rcases hk with ⟨rfl, rfl⟩ | ⟨rfl, rfl⟩
  · iintro ⟨Ha, ⟨Hf, Ht⟩, Hc⟩
    isplitl [Ha]; · iexact Ha
    isplitl [Hf]; · iexact Hf
    isplitl [Ht]; · iexact Ht
    iexact Hc
  · iintro ⟨Ha, ⟨Hf, Ht⟩, Hc⟩
    isplitl [Ha]; · iexact Ha
    isplitl [Hf]; · iexact Hf
    isplitl [Ht]; · iexact Ht
    iexact Hc

theorem fromOthers_land (d : Bool) (s : Fin 3) : fromOthers (xK d true s) = N := by
  unfold fromOthers; rw [if_neg (by revert d s; decide), if_pos (by revert d s; decide)]

omit [FloatOps F] in
/-- The shares at a hop's two semaphores are all the hop needs. -/
theorem hopStart_of (c : Dev nD) (d : Bool) (s : Fin 3) : iprop(cellShare c (xK d false s) ∗ cellShare c (xK d true s)) ⊢ (hopStart d s c : sProp 𝕄) := by
  unfold cellShare hopStart
  rw [bigSep_bool, bigSep_bool, payee_sent, payee_land, fromOthers_land]
  simp only [kcell_x]
  iintro ⟨⟨Ha, ⟨Ht, -⟩, -⟩, Ha', ⟨Ht', -⟩, Hc⟩
  isplitl [Ha]; · iexact Ha
  isplitl [Ha']; · iexact Ha'
  isplitl [Ht]; · iexact Ht
  isplitl [Ht']; · iexact Ht'
  iexact Hc

/-- All of a device's shares, regrouped by barrier and hop. -/
def shares (c : Dev nD) : sProp 𝕄 :=
  iprop(barShare barS c ∗ barShare endS c ∗ (hopStart true 0 c ∗ hopStart false 0 c) ∗ (hopStart true 1 c ∗ hopStart false 1 c)
    ∗ (hopStart true 2 c ∗ hopStart false 2 c))

omit [FloatOps F] in
theorem shares_of (c : Dev nD) : (bigSep Finset.univ fun k => (cellShare c k : sProp 𝕄)) ⊢ shares c := by
  rw [bigSep_cells]
  unfold shares
  iintro ⟨H0, H1, S0, S1, S2, L0, L1, L2, T0, T1, T2, M0, M1, M2⟩
  isplitl [H0]; · iapply (barShare_of c 0 barS (Or.inl ⟨rfl, rfl⟩)); iexact H0
  isplitl [H1]; · iapply (barShare_of c 1 endS (Or.inr ⟨rfl, rfl⟩)); iexact H1
  isplitl [S0 L0 T0 M0]
  · isplitl [S0 L0]
    · iapply (hopStart_of c true 0); isplitl [S0] <;> iassumption
    · iapply (hopStart_of c false 0); isplitl [T0] <;> iassumption
  isplitl [S1 L1 T1 M1]
  · isplitl [S1 L1]
    · iapply (hopStart_of c true 1); isplitl [S1] <;> iassumption
    · iapply (hopStart_of c false 1); isplitl [T1] <;> iassumption
  · isplitl [S2 L2]
    · iapply (hopStart_of c true 2); isplitl [S2] <;> iassumption
    · iapply (hopStart_of c false 2); isplitl [T2] <;> iassumption

/-- All of a device's positions after its one round at every semaphore. -/
def donePos (c : Dev nD) : sProp 𝕄 :=
  iprop(atPos ER (regCell barS c) (0 + 1) ∅ 0 ∗ atPos ER (regCell endS c) (0 + 1) ∅ 0 ∗ (hopDone true 0 c ∗ hopDone false 0 c)
    ∗ (hopDone true 1 c ∗ hopDone false 1 c) ∗ (hopDone true 2 c ∗ hopDone false 2 c))

omit [FloatOps F] in
theorem donePos_all (c : Dev nD) : (donePos c : sProp 𝕄) ⊢ bigSep Finset.univ fun k : Fin 14 => atPos ER (kcell (c, k)) (0 + 1) ∅ 0 := by
  rw [bigSep_cells]
  unfold donePos hopDone
  simp only [kcell_x, kcell_bar, kcell_end]
  iintro ⟨H0, H1, ⟨⟨S0, L0⟩, T0, M0⟩, ⟨⟨S1, L1⟩, T1, M1⟩, ⟨S2, L2⟩, T2, M2⟩
  isplitl [H0]; · iexact H0
  isplitl [H1]; · iexact H1
  isplitl [S0]; · iexact S0
  isplitl [S1]; · iexact S1
  isplitl [S2]; · iexact S2
  isplitl [L0]; · iexact L0
  isplitl [L1]; · iexact L1
  isplitl [L2]; · iexact L2
  isplitl [T0]; · iexact T0
  isplitl [T1]; · iexact T1
  isplitl [T2]; · iexact T2
  isplitl [M0]; · iexact M0
  isplitl [M1]; · iexact M1
  iexact M2

/-- Every semaphore of a device at zero, its own again. -/
def zeros (c : Dev nD) : sProp 𝕄 := bigSep Finset.univ fun k : Fin 14 => semVal (kcell (c, k)) 0

omit [FloatOps F] in
/-- Something persistent may be used at every member. -/
theorem bigSep_using {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

variable (K : Dev nD × Fin 14 → ℕ)

/-- The round over at every semaphore, they all close. -/
theorem close_all (c : Dev nD) : iprop(records m ρ K ∗ donePos c) ⊢ |={Set.univ}=> (zeros c : sProp 𝕄) := by
  unfold zeros
  refine (sep_mono_right (donePos_all c)).trans (BI.Entails.trans (bigSep_using fun k => ?_) (bigSep_fupd _ _))
  iintro ⟨#HR, Ha⟩
  iapply (Rounds.cell_close ER (sched m ρ) (Set.mem_univ (K (c, k))) (fun h => h) (R := 0 + 1) (duties_later m ρ (kcell (c, k))))
  isplitr; · iapply (inv_of m ρ K (c, k) rfl); iexact HR
  iexact Ha

/-! ## Before and after -/

/-- What every device knows and what device `c` holds when its body starts, its buffers apart. -/
def start (c : Dev nD) : sProp 𝕄 := iprop(∃ K, records m ρ K ∗ levAts L lv ∗ shares c)

/-- The five buffers the kernel keeps for itself, at some contents. -/
def kept (c : Dev nD) : sProp 𝕄 :=
  iprop((∃ f : Buf (Elt F) ((c : Thread nD τ).loc cc0_scratch0), ((c : Thread nD τ).loc cc0_scratch0) ↦{fullShare} f)
    ∗ bufAny true false c ∗ bufAny false false c ∗ bufAny true true c ∗ bufAny false true c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => ystg m ρ c
    | ⟨2, _⟩ => outAt m ρ c
  Φ t := match t with
    | ⟨0, _⟩ => iprop(start m ρ c ∗ kept c)
    | ⟨_ + 1, _⟩ => iprop(zeros c ∗ kept c)
  q _ := fullShare
  owed t := match t with
    | ⟨0, _⟩ => owed c dues
    | ⟨_ + 1, _⟩ => 0

/-- A staging buffer whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop((start m ρ c ∗ kept c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop((zeros c ∗ kept c) ∗ (dats m ρ 0 c).owesAt () t0_0.succ
    ∗ stg c cc0_stg0_0 (xstg m ρ c) ∗ stg c cc0_stg1_0 (ystg m ρ c) ∗ stg c cc0_stg2_0 (outAt m ρ c))

/-! ## What the body reads and where it sends -/

theorem hz : (![0, 0] : Fin 2 → Nat) = fun _ => 0 := funext fun a => by fin_cases a <;> rfl

theorem off1_at (c : Dev nD) : k0_off1 c = ![128 * (blkOf true c 0).val + 0, 0] := (k0_off1_eq c).trans (by revert c; decide)
theorem off2_at (c : Dev nD) : k0_off2 c = ![128 * (blkOf false c 0).val + 64, 0] := (k0_off2_eq c).trans (by revert c; decide)
theorem off3_at (c : Dev nD) (r : Fin 3) : k0_off3 c (BitVec.ofNat 32 r.val) = ![128 * (blkOf true c (r.val + 1)).val + 0, 0] :=
  (k0_off3_eq c r).trans (by revert c r; decide)
theorem off4_at (c : Dev nD) (r : Fin 3) : k0_off4 c (BitVec.ofNat 32 r.val) = ![128 * (blkOf false c (r.val + 1)).val + 64, 0] :=
  (k0_off4_eq c r).trans (by revert c r; decide)

theorem one_word : (1#32 : BitVec 32).toInt = 1 := by decide
theorem two_word : (2#32 : BitVec 32).toInt = 2 := by decide

end Cert.KernelIdeal.Ring

end
-- ==== Proof.RingIdealSound.lean ====
/-
The kernel's body on device `c`, run symbolically from what the launch hands it to what it leaves: one rule per effect
or move, in program order.
-/
module

public import proofs.«01_k».proof.Proof.RingIdealBody

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
/-- The body, from what the launch hands device `c` to what it leaves: the result filled, every semaphore closed. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scoped0) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, Prog.bind_assoc, wp_deviceId, one_word, two_word]
  unfold bodyPre start kept
  iintro ⟨⟨⟨⟨%K, #HR, #Hlev, Hsh⟩, ⟨%p0, Hp⟩, HbSF, HbSR, HbLF, HbLR⟩, Ho, ⟨%d0, %g0, %hg0, Hx⟩, ⟨%d1, %g1, %hg1, Hy⟩, ⟨%d2, %g2, %hg2, Hout⟩⟩, Hk⟩
  have hx : g0 = xstg m ρ c := by rw [hg0]; unfold Dat.before; rw [if_pos (fetch0_0 t0_0)]; rfl
  have hy : g1 = ystg m ρ c := by rw [hg1]; unfold Dat.before; rw [if_pos (fetch0_1 t0_0)]; rfl
  subst hx hy
  unfold Dat.owesAt Pipeline.owesWithin
  icases Ho with ⟨%W, %hW, HO⟩
  rw [show (dats m ρ 0 c).owed t0_0.castSucc = owed c dues from rfl]
  unfold shares barShare
  icases Hsh with ⟨⟨HaB, HtBf, HtBt, HcB⟩, ⟨HaE, HtEf, HtEt, HcE⟩, ⟨HF0, HG0⟩, ⟨HF1, HG1⟩, ⟨HF2, HG2⟩⟩
  -- the slot buffers are cut into their slots
  ihave H := (buf_cut true false c) $$ HbSF
  icases H with ⟨HsF, HrSF⟩
  ihave H := (buf_cut false false c) $$ HbSR
  icases H with ⟨HsR, HrSR⟩
  ihave H := (buf_cut true true c) $$ HbLF
  icases H with ⟨HlF, HrLF⟩
  ihave H := (buf_cut false true c) $$ HbLR
  icases H with ⟨HlR, HrLR⟩
  -- the entry barrier: the landing slots go to the neighbours, theirs come back
  iapply (wp_signal_nbr m ρ K c _ false (Fin.ext (k0_dev1_eq c)) 0 barS rfl (dues.drop 1) W) $$ [HO HtBf HlF]
  · isplitr; · iexact HR
    isplitl [HO]; · iexact HO
    isplitl [HtBf]; · iexact HtBf
    rw [payload_bar]; unfold targets slotsOf; rw [nbr_back]; iexact HlF
  iintro HO
  iapply (wp_signal_nbr m ρ K c _ true (Fin.ext (k0_dev2_eq c)) 0 barS rfl (dues.drop 2) W) $$ [HO HtBt HlR]
  · isplitr; · iexact HR
    isplitl [HO]; · iexact HO
    isplitl [HtBt]; · iexact HtBt
    rw [payload_bar]; unfold targets slotsOf; rw [nbr_back]; iexact HlR
  iintro HO
  iapply (wp_wait_nbrs m ρ K c 0 barS rfl (dues.drop 2) (by decide) W) $$ [HO HcB HaB]
  · isplitr; · iexact HR
    isplitr; · iexact Hlev
    isplitl [HcB]; · iexact HcB
    isplitl [HO]; · iexact HO
    iexact HaB
  iintro ⟨HO, HaB, Hpay⟩
  ihave Hpay := (Entails.of_eq (rest_bar m ρ c)) $$ Hpay
  unfold targets slotsOf
  simp only [bigSep_three]
  icases Hpay with ⟨⟨HtF0, HtF1, HtF2⟩, ⟨HtR0, HtR1, HtR2⟩⟩
  icases HsF with ⟨HsF0, HsF1, HsF2⟩
  icases HsR with ⟨HsR0, HsR1, HsR2⟩
  -- the device's own product
  iapply (wp_load 𝒱₀ (c : Thread nD τ) none Set.univ (m := (Memref.whole cc0_stg0_0 : Memref sig .tc .vmem S512x512 .bf16)) (Finset.subset_univ _)) $$ Hx; iintro Hx
  rw [show (Memref.whole cc0_stg0_0 : Memref sig .tc .vmem S512x512 .bf16).view.readAt (Elt F) (Rect.unit (s := S512x512) ![0, 0] S512x512.size inb_S512x512_S512x512_0_0).toLoadRect (xstg m ρ c) = xstg m ρ c
    from Memref.readAt_unit_zero (Elt F) cc0_stg0_0 hz _ _]
  iapply (wp_load 𝒱₀ (c : Thread nD τ) none Set.univ (m := (Memref.whole cc0_stg1_0 : Memref sig .tc .vmem S512x2048 .bf16)) (Finset.subset_univ _)) $$ Hy; iintro Hy
  rw [show (Memref.whole cc0_stg1_0 : Memref sig .tc .vmem S512x2048 .bf16).view.readAt (Elt F) (Rect.unit (s := S512x2048) ![0, 0] S512x2048.size inb_S512x2048_S512x2048_0_0).toLoadRect (ystg m ρ c) = ystg m ρ c
    from Memref.readAt_unit_zero (Elt F) cc0_stg1_0 hz _ _]
  iapply (wp_load 𝒱₀ (c : Thread nD τ) none Set.univ (m := (Memref.whole cc0_scratch0 : Memref sig .tc .vmem S512x2048 .bf16)) (Finset.subset_univ _)) $$ Hp; iintro Hp
  iapply (wp_store 𝒱₀ (c : Thread nD τ) none Set.univ (m := (Memref.whole cc0_scratch0 : Memref sig .tc .vmem S512x2048 .bf16))
    (r := Rect.unit (s := S512x2048) ![0, 0] S512x2048.size inb_S512x2048_S512x2048_0_0) (Mk := Finset.univ) (Finset.subset_univ _)) $$ Hp; iintro Hp
  rw [show (((Memref.whole cc0_scratch0 : Memref sig .tc .vmem S512x2048 .bf16).access (Rect.unit (s := S512x2048) ![0, 0] S512x2048.size inb_S512x2048_S512x2048_0_0)).write
      (Elt F) p0 (k0_pay1 (xstg m ρ c) (ystg m ρ c)) Finset.univ) = prodAt m ρ c from Memref.write_access_unit_zero_univ (Elt F) cc0_scratch0 hz _ _ _]
  ihave Hp := (show (((c : Thread nD τ).loc cc0_scratch0) ↦{fullShare} (prodAt m ρ c) : sProp 𝕄) ⊢ prodHeld m ρ c from BI.Entails.refl _) $$ Hp
  -- hop 0
  iapply (wp_rows m ρ c true (blkOf true c 0) _ (off1_at c)) $$ Hp; iintro Hp
  iapply (wp_fill m ρ c true k0_pay2 (fun _ => shapeCast_shapeCast _ _ _)) $$ HsF0; iintro HsF0
  iapply (wp_rows m ρ c false (blkOf false c 0) _ (off2_at c)) $$ Hp; iintro Hp
  iapply (wp_fill m ρ c false k0_pay3 (fun _ => shapeCast_shapeCast _ _ _)) $$ HsR0; iintro HsR0
  iapply (wp_send_hop m ρ K c _ true 0 (Fin.ext (k0_dev3_eq c)) rfl rfl rfl rfl (dues.drop 3) _) $$ [HsF0 HtF0 HO HF0]
  · isplitr; · iexact HR
    isplitl [HsF0]; · iexact HsF0
    isplitl [HtF0]; · iexact HtF0
    isplitl [HO]; · iexact HO
    iexact HF0
  iintro ⟨HF0, HO⟩
  iapply (wp_send_hop m ρ K c _ false 0 (Fin.ext (k0_dev4_eq c)) rfl rfl rfl rfl (dues.drop 4) _) $$ [HsR0 HtR0 HO HG0]
  · isplitr; · iexact HR
    isplitl [HsR0]; · iexact HsR0
    isplitl [HtR0]; · iexact HtR0
    isplitl [HO]; · iexact HO
    iexact HG0
  iintro ⟨HG0, HO⟩
  iapply (wp_landed_hop m ρ K c true 0 rfl rfl (dues.drop 4) (by decide) _) $$ [HO HF0]
  · isplitr; · iexact HR
    isplitr; · iexact Hlev
    isplitl [HO]; · iexact HO
    iexact HF0
  iintro ⟨HO, HF0, HlF0⟩
  iapply (wp_landed_hop m ρ K c false 0 rfl rfl (dues.drop 4) (by decide) _) $$ [HO HG0]
  · isplitr; · iexact HR
    isplitr; · iexact Hlev
    isplitl [HO]; · iexact HO
    iexact HG0
  iintro ⟨HO, HG0, HlR0⟩
  -- hop 1
  iapply (wp_add_hop m ρ c true 0 1 rfl _ (off3_at c 0) k0_pay4 (fun _ _ => shapeCast_shapeCast _ _ _)) $$ [HlF0 HsF1 Hp]
  · isplitl [HlF0]; · iexact HlF0
    isplitl [HsF1]; · iexact HsF1
    iexact Hp
  iintro ⟨HlF0, HsF1, Hp⟩
  iapply (wp_add_hop m ρ c false 0 1 rfl _ (off4_at c 0) k0_pay5 (fun _ _ => shapeCast_shapeCast _ _ _)) $$ [HlR0 HsR1 Hp]
  · isplitl [HlR0]; · iexact HlR0
    isplitl [HsR1]; · iexact HsR1
    iexact Hp
  iintro ⟨HlR0, HsR1, Hp⟩
  iapply (wp_send_hop m ρ K c _ true 1 (Fin.ext (k0_dev5_eq c)) rfl rfl rfl rfl (dues.drop 5) _) $$ [HsF1 HtF1 HO HF1]
  · isplitr; · iexact HR
    isplitl [HsF1]; · iexact HsF1
    isplitl [HtF1]; · iexact HtF1
    isplitl [HO]; · iexact HO
    iexact HF1
  iintro ⟨HF1, HO⟩
  iapply (wp_send_hop m ρ K c _ false 1 (Fin.ext (k0_dev6_eq c)) rfl rfl rfl rfl (dues.drop 6) _) $$ [HsR1 HtR1 HO HG1]
  · isplitr; · iexact HR
    isplitl [HsR1]; · iexact HsR1
    isplitl [HtR1]; · iexact HtR1
    isplitl [HO]; · iexact HO
    iexact HG1
  iintro ⟨HG1, HO⟩
  iapply (wp_landed_hop m ρ K c true 1 rfl rfl (dues.drop 6) (by decide) _) $$ [HO HF1]
  · isplitr; · iexact HR
    isplitr; · iexact Hlev
    isplitl [HO]; · iexact HO
    iexact HF1
  iintro ⟨HO, HF1, HlF1⟩
  iapply (wp_landed_hop m ρ K c false 1 rfl rfl (dues.drop 6) (by decide) _) $$ [HO HG1]
  · isplitr; · iexact HR
    isplitr; · iexact Hlev
    isplitl [HO]; · iexact HO
    iexact HG1
  iintro ⟨HO, HG1, HlR1⟩
  -- hop 2
  iapply (wp_add_hop m ρ c true 1 2 rfl _ (off3_at c 1) k0_pay6 (fun _ _ => shapeCast_shapeCast _ _ _)) $$ [HlF1 HsF2 Hp]
  · isplitl [HlF1]; · iexact HlF1
    isplitl [HsF2]; · iexact HsF2
    iexact Hp
  iintro ⟨HlF1, HsF2, Hp⟩
  iapply (wp_add_hop m ρ c false 1 2 rfl _ (off4_at c 1) k0_pay7 (fun _ _ => shapeCast_shapeCast _ _ _)) $$ [HlR1 HsR2 Hp]
  · isplitl [HlR1]; · iexact HlR1
    isplitl [HsR2]; · iexact HsR2
    iexact Hp
  iintro ⟨HlR1, HsR2, Hp⟩
  iapply (wp_send_hop m ρ K c _ true 2 (Fin.ext (k0_dev7_eq c)) rfl rfl rfl rfl (dues.drop 7) _) $$ [HsF2 HtF2 HO HF2]
  · isplitr; · iexact HR
    isplitl [HsF2]; · iexact HsF2
    isplitl [HtF2]; · iexact HtF2
    isplitl [HO]; · iexact HO
    iexact HF2
  iintro ⟨HF2, HO⟩
  iapply (wp_send_hop m ρ K c _ false 2 (Fin.ext (k0_dev8_eq c)) rfl rfl rfl rfl (dues.drop 8) _) $$ [HsR2 HtR2 HO HG2]
  · isplitr; · iexact HR
    isplitl [HsR2]; · iexact HsR2
    isplitl [HtR2]; · iexact HtR2
    isplitl [HO]; · iexact HO
    iexact HG2
  iintro ⟨HG2, HO⟩
  iapply (wp_landed_hop m ρ K c true 2 rfl rfl (dues.drop 8) (by decide) _) $$ [HO HF2]
  · isplitr; · iexact HR
    isplitr; · iexact Hlev
    isplitl [HO]; · iexact HO
    iexact HF2
  iintro ⟨HO, HF2, HlF2⟩
  iapply (wp_landed_hop m ρ K c false 2 rfl rfl (dues.drop 8) (by decide) _) $$ [HO HG2]
  · isplitr; · iexact HR
    isplitr; · iexact Hlev
    isplitl [HO]; · iexact HO
    iexact HG2
  iintro ⟨HO, HG2, HlR2⟩
  -- the result
  iapply (wp_add_out m ρ c true _ _ (off3_at c 2) k0_pay8 (fun _ _ => rfl)) $$ [HlF2 Hout Hp]
  · isplitl [HlF2]; · iexact HlF2
    isplitl [Hout]; · iexact Hout
    iexact Hp
  iintro ⟨HlF2, Hout, Hp⟩
  iapply (wp_add_out m ρ c false _ _ (off4_at c 2) k0_pay9 (fun _ _ => rfl)) $$ [HlR2 Hout Hp]
  · isplitl [HlR2]; · iexact HlR2
    isplitl [Hout]; · iexact Hout
    iexact Hp
  iintro ⟨HlR2, Hout, Hp⟩
  rw [stacked_eq]
  -- the sending slots come back
  iapply (wp_sent_hop m ρ K c true 0 rfl rfl (dues.drop 8) (by decide) _) $$ [HO HF0]
  · isplitr; · iexact HR
    isplitr; · iexact Hlev
    isplitl [HO]; · iexact HO
    iexact HF0
  iintro ⟨HO, HF0, HsF0⟩
  iapply (wp_sent_hop m ρ K c false 0 rfl rfl (dues.drop 8) (by decide) _) $$ [HO HG0]
  · isplitr; · iexact HR
    isplitr; · iexact Hlev
    isplitl [HO]; · iexact HO
    iexact HG0
  iintro ⟨HO, HG0, HsR0⟩
  iapply (wp_sent_hop m ρ K c true 1 rfl rfl (dues.drop 8) (by decide) _) $$ [HO HF1]
  · isplitr; · iexact HR
    isplitr; · iexact Hlev
    isplitl [HO]; · iexact HO
    iexact HF1
  iintro ⟨HO, HF1, HsF1⟩
  iapply (wp_sent_hop m ρ K c false 1 rfl rfl (dues.drop 8) (by decide) _) $$ [HO HG1]
  · isplitr; · iexact HR
    isplitr; · iexact Hlev
    isplitl [HO]; · iexact HO
    iexact HG1
  iintro ⟨HO, HG1, HsR1⟩
  iapply (wp_sent_hop m ρ K c true 2 rfl rfl (dues.drop 8) (by decide) _) $$ [HO HF2]
  · isplitr; · iexact HR
    isplitr; · iexact Hlev
    isplitl [HO]; · iexact HO
    iexact HF2
  iintro ⟨HO, HF2, HsF2⟩
  iapply (wp_sent_hop m ρ K c false 2 rfl rfl (dues.drop 8) (by decide) _) $$ [HO HG2]
  · isplitr; · iexact HR
    isplitr; · iexact Hlev
    isplitl [HO]; · iexact HO
    iexact HG2
  iintro ⟨HO, HG2, HsR2⟩
  -- the exit barrier
  iapply (wp_signal_nbr m ρ K c _ false (Fin.ext (k0_dev9_eq c)) 1 endS rfl (dues.drop 9) _) $$ [HO HtEf]
  · isplitr; · iexact HR
    isplitl [HO]; · iexact HO
    isplitl [HtEf]; · iexact HtEf
    rw [payload_end]; iempintro
  iintro HO
  iapply (wp_signal_nbr m ρ K c _ true (Fin.ext (k0_dev10_eq c)) 1 endS rfl (dues.drop 10) _) $$ [HO HtEt]
  · isplitr; · iexact HR
    isplitl [HO]; · iexact HO
    isplitl [HtEt]; · iexact HtEt
    rw [payload_end]; iempintro
  iintro HO
  iapply (wp_wait_nbrs m ρ K c 1 endS rfl (dues.drop 10) (by decide) _) $$ [HO HcE HaE]
  · isplitr; · iexact HR
    isplitr; · iexact Hlev
    isplitl [HcE]; · iexact HcE
    isplitl [HO]; · iexact HO
    iexact HaE
  iintro ⟨HO, HaE, -⟩
  -- every semaphore closes
  imod (close_all m ρ K c) $$ [HaB HaE HF0 HG0 HF1 HG1 HF2 HG2] with Hz
  · isplitr; · iexact HR
    unfold donePos
    isplitl [HaB]; · iexact HaB
    isplitl [HaE]; · iexact HaE
    isplitl [HF0 HG0]; · (isplitl [HF0] <;> iassumption)
    isplitl [HF1 HG1]; · (isplitl [HF1] <;> iassumption)
    isplitl [HF2] <;> iassumption
  -- the slot buffers are whole again
  ihave HbSF := (buf_join true false c (m _)) $$ [HsF0 HsF1 HsF2 HrSF]
  · isplitr [HrSF]
    · unfold slotsOf; rw [bigSep_three]
      isplitl [HsF0]; · iexact HsF0
      isplitl [HsF1] <;> iassumption
    iexact HrSF
  ihave HbSR := (buf_join false false c (m _)) $$ [HsR0 HsR1 HsR2 HrSR]
  · isplitr [HrSR]
    · unfold slotsOf; rw [bigSep_three]
      isplitl [HsR0]; · iexact HsR0
      isplitl [HsR1] <;> iassumption
    iexact HrSR
  ihave HbLF := (buf_join true true c (m _)) $$ [HlF0 HlF1 HlF2 HrLF]
  · isplitr [HrLF]
    · unfold slotsOf; rw [bigSep_three]
      isplitl [HlF0]; · iexact HlF0
      isplitl [HlF1] <;> iassumption
    iexact HrLF
  ihave HbLR := (buf_join false true c (m _)) $$ [HlR0 HlR1 HlR2 HrLR]
  · isplitr [HrLR]
    · unfold slotsOf; rw [bigSep_three]
      isplitl [HlR0]; · iexact HlR0
      isplitl [HlR1] <;> iassumption
    iexact HrLR
  rw [wp_ret]; imodintro
  iapply Hk
  unfold bodyPost kept prodHeld Dat.owesAt Pipeline.owesWithin
  rw [show (dats m ρ 0 c).owed t0_0.succ = 0 from rfl]
  isplitl [Hz Hp HbSF HbSR HbLF HbLR]
  · isplitl [Hz]; · iexact Hz
    isplitl [Hp]; · iexists _; iexact Hp
    isplitl [HbSF]; · iexact HbSF
    isplitl [HbSR]; · iexact HbSR
    isplitl [HbLF] <;> iassumption
  isplitl [HO]
  · iexists _
    isplitr; rotate_left; · iexact HO
    ipureintro; exact fun _ _ => Or.inl trivial
  isplitl [Hx]
  · iexists _; isplitr; · (ipureintro; rfl)
    iexact Hx
  isplitl [Hy]
  · iexists _; isplitr; · (ipureintro; rfl)
    iexact Hy
  iexists _; isplitr; · (ipureintro; rfl)
  iexact Hout

end Cert.KernelIdeal.Ring

end
-- ==== Proof.RingIdealLaunch.lean ====
/-
The launch: the fourteen semaphores of every device are funded, the duties' tokens dealt to the devices that pay them,
the launch credit counted, and the library's theorem for one region applied. Its conclusion is the run: every fair
execution ends, with each device's arrays at what the proof data says and every semaphore at zero.
-/
module

public import proofs.«01_k».proof.Proof.RingIdealSound
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [stg_eq]
  show bodyPre m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8 cc0_scoped0) (fun _ => bodyPost m ρ c)
  iintro H
  iapply (sound_body m ρ c fun _ => bodyPost m ρ c)
  isplitl [H]
  · iexact H
  · iintro H
    iexact H

/-! ## Funding -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 14 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The protocol's semaphores over the mesh, and the tokens of their duties, two a semaphore. -/
def ringCells : Finset (GSem nD τ sig) := Finset.univ.map ⟨kcell, kcell_injective⟩
def tokOf (x : (Dev nD × Fin 14) × Bool) : GSem nD τ sig × ℕ × Bool := (kcell x.1, 0, x.2)
theorem tokOf_injective : Function.Injective tokOf := by
  rintro ⟨x, b⟩ ⟨x', b'⟩ h
  have h1 : x = x' := kcell_injective (congrArg Prod.fst h)
  have h2 : b = b' := congrArg (fun y : GSem nD τ sig × ℕ × Bool => y.2.2) h
  rw [h1, h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own semaphores, and of the duties it pays. -/
def ownToks (c : Dev nD) : sProp 𝕄 := bigSep Finset.univ fun k : Fin 14 => bigSep Finset.univ fun b : Bool => dutyTok ER (kcell (c, k)) 0 b
def payToks (c : Dev nD) : sProp 𝕄 := bigSep Finset.univ fun k : Fin 14 => bigSep Finset.univ fun b : Bool => dutyTok ER (kcell (payee k b c, k)) 0 b

/-- What the launch element deals device `c`, and what the devices make of it together. -/
def G (c : Dev nD) : sProp 𝕄 :=
  iprop((bigSep Finset.univ fun k : Fin 14 => roundState ER (sched m ρ) (kcell (c, k)) 0)
    ∗ (bigSep Finset.univ fun k : Fin 14 => iprop(atPos ER (kcell (c, k)) 0 ∅ 0 ∗ reached ER (kcell (c, k)) 0)) ∗ ownToks c)
def G' (c : Dev nD) : sProp 𝕄 :=
  iprop(∃ K, records m ρ K ∗ (bigSep Finset.univ fun k : Fin 14 => atPos ER (kcell (c, k)) 0 ∅ 0) ∗ payToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 14 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks ownToks; rw [bigSep_map, bigSep_univ_prod, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The entry barrier is the launch's one lasting semaphore; the others are the kernel's own. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- All fourteen at zero are the kernel's own and the lasting one at zero. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [unscopedSems0_eq]
  unfold zeros
  rw [bigSep_univ_at _ 0, show (Finset.univ : Finset (Fin 14)).erase 0 = Finset.univ.map ⟨Fin.succ, Fin.succ_injective 13⟩ by decide, bigSep_map]
  rfl

/-- Every semaphore of a device put under its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 14 => iprop(∃ κ : ℕ, cellInv ER (sched m ρ) κ (kcell (c, k))))
          ∗ (bigSep Finset.univ fun k : Fin 14 => iprop(atPos ER (kcell (c, k)) 0 ∅ 0 ∗ reached ER (kcell (c, k)) 0)) ∗ ownToks c) := by
  unfold G
  iintro ⟨Hos, Hus, Hst, Hat, Htok⟩
  imod (show iprop(zeros c ∗ bigSep Finset.univ fun k : Fin 14 => roundState ER (sched m ρ) (kcell (c, k)) 0)
      ⊢ (|={Set.univ}=> bigSep Finset.univ fun k : Fin 14 => iprop(∃ κ : ℕ, cellInv ER (sched m ρ) κ (kcell (c, k))) : sProp 𝕄) from by
        unfold zeros
        rw [← bigSep_sep']
        exact (bigSep_mono fun k _ => (Rounds.body_intro ER (sched m ρ) (kcell (c, k))).trans inv_alloc).trans (bigSep_fupd _ _)) $$ [Hos Hus Hst] with Hinv
  · rw [zeros_eq]
    isplitl [Hos Hus]
    · isplitl [Hus] <;> iassumption
    iexact Hst
  imodintro
  isplitl [Hinv]; · iexact Hinv
  isplitl [Hat]; · iexact Hat
  iexact Htok

omit [FloatOps F] in
/-- Each token goes to the device that pays its duty. -/
theorem toks_dealt : (bigSep Finset.univ fun c : Dev nD => (ownToks c : sProp 𝕄)) = bigSep Finset.univ fun c : Dev nD => payToks c := by
  unfold ownToks payToks
  rw [bigSep_univ_comm, bigSep_univ_comm (fun (c : Dev nD) (k : Fin 14) => bigSep Finset.univ fun b : Bool => (dutyTok ER (kcell (payee k b c, k)) 0 b : sProp 𝕄))]
  refine bigSep_congr fun k _ => ?_
  rw [bigSep_univ_comm, bigSep_univ_comm (fun (c : Dev nD) (b : Bool) => (dutyTok ER (kcell (payee k b c, k)) 0 b : sProp 𝕄))]
  exact bigSep_congr fun b _ => bigSep_univ_equiv (payee k b) (fun c : Dev nD => (dutyTok ER (kcell (c, k)) 0 b : sProp 𝕄))

/-- The invariants' names are chosen and the records shared by all devices. -/
theorem regroup :
    (bigSep Finset.univ fun c : Dev nD => iprop((bigSep Finset.univ fun k : Fin 14 => iprop(∃ κ : ℕ, cellInv ER (sched m ρ) κ (kcell (c, k))))
          ∗ (bigSep Finset.univ fun k : Fin 14 => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 14 => iprop(∃ κ : ℕ, cellInv ER (sched m ρ) κ (kcell ck))),
    bigSep_congr (s := Finset.univ) (fun (c : Dev nD) _ => bigSep_sep' Finset.univ (fun k : Fin 14 => (atPos ER (kcell (c, k)) 0 ∅ 0 : sProp 𝕄)) (fun k => reached ER (kcell (c, k)) 0)),
    bigSep_sep', ← bigSep_univ_prod (fun ck : Dev nD × Fin 14 => (reached ER (kcell ck) 0 : sProp 𝕄)), toks_dealt]
  iintro ⟨HI, ⟨Hat, #HR⟩, Htok⟩
  ihave HK := (BI.bigSep_exists_pi Finset.univ (fun (ck : Dev nD × Fin 14) (κ : ℕ) => (cellInv ER (sched m ρ) κ (kcell ck) : sProp 𝕄))) $$ HI
  icases HK with ⟨%K, #HI⟩
  iapply (bigSep_using (R := records m ρ K)
    (Φ := fun c : Dev nD => iprop((bigSep Finset.univ fun k : Fin 14 => atPos ER (kcell (c, k)) 0 ∅ 0) ∗ payToks c)) fun c => by
      unfold G'
      iintro ⟨#H, Hp⟩
      iexists K
      isplitr; · iexact H
      iexact Hp)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What all the devices together owe one semaphore of device `c` is the sum of the list's payments to that semaphore: of each
    payment exactly one device, the neighbour on the other side, makes it to `c`. -/
theorem owed_sum (c : Dev nD) (sm : SemLoc sig) : ∀ l : List (Bool × SemLoc sig × ℕ),
    (∑ e : Dev nD, owed e l ((c : Thread nD τ), sm) ()) = (l.map fun p => if sm = p.2.1 then p.2.2 else 0).sum
  | [] => Finset.sum_eq_zero fun _ _ => rfl
  | p :: l => by
    rw [List.map_cons, List.sum_cons, ← owed_sum c sm l, Nat.add_comm]
    have h (e : Dev nD) : owed e (p :: l) ((c : Thread nD τ), sm) ()
        = owed e l ((c : Thread nD τ), sm) () + if e = (turn p.1).symm c then (if sm = p.2.1 then p.2.2 else 0) else 0 := by
      show owed e l ((c : Thread nD τ), sm) () + tallyAt ((nbr p.1 e : Thread nD τ), p.2.1) () p.2.2 ((c : Thread nD τ), sm) () = _
      rw [tallyAt_apply]
      congr 1
      by_cases he : e = (turn p.1).symm c
      · have hc : nbr p.1 e = c := by subst he; exact (turn p.1).apply_symm_apply c
        rw [if_pos he, hc]
        by_cases hs : sm = p.2.1
        · rw [if_pos hs, if_pos ⟨by rw [hs], rfl⟩]
        · rw [if_neg hs, if_neg fun h => hs (congrArg Prod.snd h.1)]
      · rw [if_neg he, if_neg fun h => he ((turn p.1).eq_symm_apply.mpr (congrArg (fun g : GSem nD τ sig => g.1.1) h.1).symm)]
    rw [Finset.sum_congr rfl fun e _ => h e, Finset.sum_add_distrib, Finset.sum_ite_eq' Finset.univ _ fun _ => _, if_pos (Finset.mem_univ _)]

theorem dues_at (k : Fin 14) : (dues.map fun p => if csem k = p.2.1 then p.2.2 else 0).sum = fromOthers k := by
  revert k; decide

theorem launch_at (c : Dev nD) (k : Fin 14) :
    tallyOn (kcell (c, k)) (launchCredit (Pipeline.owing fun e => owed e dues) 0 (kcell (c, k)))
      = (tallyAt (kcell (c, k)) () (fromOthers k) : CellTallies nD τ sig Unit) := by
  unfold tallyAt; refine congrArg _ (Finsupp.ext fun u => ?_); cases u
  rw [Pipeline.launchCredit_owing, Finsupp.single_eq_same, owed_sum, dues_at]

omit [FloatOps F] in
theorem creds (c : Dev nD) :
    (Pipeline.launchCred (fun e => owed e dues) c : sProp 𝕄) ⊢ bigSep Finset.univ fun k : Fin 14 => cred (tallyAt (kcell (c, k)) () (fromOthers k)) := by
  unfold Pipeline.launchCred
  refine (bigSep_subset (Finset.subset_univ (Finset.univ.map ⟨csem, csem_injective⟩))).trans ?_
  rw [bigSep_map]
  exact Entails.of_eq (bigSep_congr fun k _ => congrArg (fun x => (cred x : sProp 𝕄)) (launch_at c k))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun e => owed e dues) c ∗ prngReg c (ρ c) ∗ G' m ρ c)
      ⊢ |={Set.univ}=> iprop(start m ρ c ∗ emp) := by
  unfold start G' payToks
  iintro ⟨-, Hlev, Hcr, -, ⟨%K, HR, Hat, Htok⟩⟩
  ihave Hc := (creds (F := F) c) $$ Hcr
  imodintro
  isplitl
  · iexists K
    isplitl [HR]; · iexact HR
    isplitl [Hlev]; · iexact Hlev
    iapply (shares_of (F := F) c)
    unfold cellShare
    rw [bigSep_sep', bigSep_sep']
    isplitl [Hat]; · iexact Hat
    isplitl [Htok]; · iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ kept c) from rfl, scopedRest0_eq]
  iintro ⟨Hs, -, Hr⟩
  isplitl [Hs]; · iexact Hs
  unfold kept bufAny
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ kept c) from rfl, scopedRest0_eq, zeros_eq]
  iintro ⟨⟨Hu, Ho⟩, Hr⟩
  isplitl [Hu]; · iexact Hu
  isplitl [Ho]; · iexact Ho
  unfold kept bufAny
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ dues (by fin_cases w <;> fin_cases s <;> decide)
    · exact mayWait c _ [] (fun _ h => absurd h List.not_mem_nil)

/-! ## The run -/

/-- What each windowed array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, for any float values, every fair execution of the four devices' program ends,
    with each device's two argument arrays unchanged, its result array at the computed contents, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun e => owed e dues) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays hold at the end what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_y (c : Dev nD) : finalA m ρ c (1 : Fin 3) = (s₀ m ρ).mem (win0_1.arr.view.loc (c : Thread nD τ)) :=
  (dats (F := F) m ρ 0 c).arrAt_in (1 : Fin 3) rfl _

end Cert.KernelIdeal.Ring

end
-- ==== Proof.ValueDevice.lean ====
/-
What one device's result holds, in exact arithmetic. A device's product at row `r`, column `l` is the sum over its 512 rows of
`x` and `dy` of their products; the ring adds the four devices' products at the rows of the block the device keeps, the widening
and narrowing of floats being the identity.
-/
module

public import proofs.«01_k».proof.Proof.RingIdealMoves
public import Idealize.ShloMosaic.Lib.Pointwise

@[expose] public section

noncomputable section

namespace Cert.KernelIdeal.Ring

open Cert.KernelIdeal Cert.KernelIdeal.Gen
open Idealize.ShloMosaic Idealize.ShloMosaic.TcCoe

set_option maxRecDepth 16384 in
/-- The product the kernel forms, at an index: columns `r` of `x` and `l` of `dy` multiplied row by row and summed. -/
theorem product_at (x : FVec Ideal S512x512 .bf16) (y : FVec Ideal S512x2048 .bf16) (r : Fin 512) (l : Fin 2048) :
    k0_pay1 (F := Ideal) x y (ix2 r l) = ∑ k : Fin 512, x (ix2 k r) * y (ix2 k l) := by
  pointwise [k0_pay1]

/-- Row `a` of the half of block `j` that travels in direction `d` is a row of the product. -/
theorem rows_at (d : Bool) (j : Dev nD) (p : Vec Ideal S512x2048 .bf16) (a : Fin 64) (l : Fin 2048) (r : Fin 512)
    (hr : r.val = 128 * j.val + (bif d then 0 else 64) + a.val) : rowsOf d j p (ix2 a l) = p (ix2 r l) := by
  unfold rowsOf
  show p _ = p _
  congr 1
  funext b; apply Fin.ext
  fin_cases b
  · show (128 * j.val + (bif d then 0 else 64)) + 1 * a.val = r.val
    omega
  · show 0 + 1 * l.val = l.val
    omega

/-- One device after another against a direction, starting anywhere, is every device once. -/
theorem around (d : Bool) (c : Dev nD) :
    (Finset.univ : Finset (Dev nD)) = {nbr (!d) (nbr (!d) (nbr (!d) c)), nbr (!d) (nbr (!d) c), nbr (!d) c, c}
      ∧ nbr (!d) (nbr (!d) (nbr (!d) c)) ∉ ({nbr (!d) (nbr (!d) c), nbr (!d) c, c} : Finset (Dev nD))
      ∧ nbr (!d) (nbr (!d) c) ∉ ({nbr (!d) c, c} : Finset (Dev nD)) ∧ nbr (!d) c ∉ ({c} : Finset (Dev nD)) := by
  revert d c; decide

/-- So adding up around the ring adds up over the devices. -/
theorem sum_around (d : Bool) (c : Dev nD) (f : Dev nD → EReal) :
    f (nbr (!d) (nbr (!d) (nbr (!d) c))) + f (nbr (!d) (nbr (!d) c)) + f (nbr (!d) c) + f c = ∑ e : Dev nD, f e := by
  obtain ⟨h, h3, h2, h1⟩ := around d c
  rw [h, Finset.sum_insert h3, Finset.sum_insert h2, Finset.sum_insert h1, Finset.sum_singleton, add_assoc, add_assoc]

/-- Every part added to device `c`'s accumulation is of block `c`. -/
theorem blocks_kept (d : Bool) (c : Dev nD) : blkOf d c 3 = c ∧ blkOf d (nbr (!d) c) 2 = c ∧ blkOf d (nbr (!d) (nbr (!d) c)) 1 = c
    ∧ blkOf d (nbr (!d) (nbr (!d) (nbr (!d) c))) 0 = c := by
  revert d c; decide

variable (m : (ℓ : Loc nD τ sig) → Buf (Elt Ideal) ℓ) (ρ : Dev nD → PrngReg)

/-- The half block's part in one device's product, at an index. -/
def part (d : Bool) (c e : Dev nD) (i : S64x2048.Idx) : EReal := rowsOf d c (prodAt m ρ e) i

/-- After its last hop a device has the sum over the four devices of their products' rows of its block. -/
theorem acc_sum (d : Bool) (c : Dev nD) (i : S64x2048.Idx) : (acc m ρ d 3 c i : EReal) = ∑ e : Dev nD, part m ρ d c e i := by
  rw [← sum_around d c fun e => part m ρ d c e i]
  obtain ⟨h3, h2, h1, h0⟩ := blocks_kept d c
  have hop (k : ℕ) (e : Dev nD) (h : blkOf d e (k + 1) = c) : (acc m ρ d (k + 1) e i : EReal) = (acc m ρ d k (nbr (!d) e) i : EReal) + part m ρ d c e i := by
    unfold part; rw [← h]; rfl
  have first (e : Dev nD) (h : blkOf d e 0 = c) : (acc m ρ d 0 e i : EReal) = part m ρ d c e i := by
    unfold part; rw [← h]; rfl
  rw [hop 2 c h3, hop 1 _ h2, hop 0 _ h1, first _ h0]

variable (X : Dev nD → FVec Ideal S512x512 .bf16) (Y : Dev nD → FVec Ideal S512x2048 .bf16)

/-- Where the devices are given `X` and `Y`, device `c`'s result at row `a`, column `l`: over the four devices and their 512 rows
    each, the products of column `128 c + a` of `X` and column `l` of `Y`. -/
theorem out_sum (hX : ∀ e, xstg m ρ e = X e) (hY : ∀ e, ystg m ρ e = Y e) (c : Dev nD) (a : Fin 128) (l : Fin 2048) (r : Fin 512)
    (hr : r.val = 128 * c.val + a.val) : (outAt m ρ c (ix2 a l) : EReal) = ∑ e : Dev nD, ∑ k : Fin 512, X e (ix2 k r) * Y e (ix2 k l) := by
  have half (d : Bool) (b : Fin 64) (hb : a.val = (bif d then 0 else 64) + b.val) :
      extf .f32 (acc m ρ d 3 c) bitsLt_bf16_f32 (ix2 b l) = ∑ e : Dev nD, ∑ k : Fin 512, X e (ix2 k r) * Y e (ix2 k l) := by
    show acc m ρ d 3 c (ix2 b l) = _
    rw [acc_sum]
    refine Finset.sum_congr rfl fun e _ => ?_
    unfold part
    rw [rows_at d c _ b l r (by omega), ← product_at, ← hX, ← hY]
    rfl
  have ha := a.isLt
  have hl := l.isLt
  unfold outAt stacked
  split
  · next h =>
    have h : a.val < 64 := h
    rw [← half true ⟨a.val, h⟩ (by simp)]
    congr 1
    funext b; apply Fin.ext
    fin_cases b
    · show a.val % 64 = a.val; omega
    · show l.val % 2048 = l.val; omega
  · next h =>
    have h : ¬ a.val < 64 := h
    rw [← half false ⟨a.val - 64, by omega⟩ (by show a.val = 64 + (a.val - 64); omega)]
    congr 1
    funext b; apply Fin.ext
    fin_cases b
    · show a.val % 64 = a.val - 64; omega
    · show l.val % 2048 = l.val; omega

end Cert.KernelIdeal.Ring

end
-- ==== Proof.ValueReference.lean ====
/-
What the reference computes, in exact arithmetic: at row `r`, column `l` the sum over all 2048 rows of `x` and `dy` of their products.
-/
module

public import proofs.«01_k».proof.Proof.Gen.ReferenceIdeal
public import Idealize.ShloMosaic.Lib.Pointwise

@[expose] public section

noncomputable section

namespace Cert.ReferenceIdeal.Whole

open Cert.ReferenceIdeal Cert.ReferenceIdeal.Gen
open Idealize.ShloMosaic

/-- The reference's result from the whole arrays. -/
def wanted (x : FVec Ideal S2048x512 .bf16) (y : FVec Ideal S2048x2048 .bf16) : FVec Ideal S512x2048 .f32 :=
  extf .f32 (truncf .bf16 (Host.dotGeneral dot_S512x2048_S2048x2048_S512x2048_1_0_0_1_n_n none
    (transpose S512x2048 [1, 0] x transposes_S2048x512_S512x2048_1_0) y) bitsLt_bf16_f32) bitsLt_bf16_f32

set_option maxRecDepth 16384 in
theorem wanted_at (x : FVec Ideal S2048x512 .bf16) (y : FVec Ideal S2048x2048 .bf16) (r : Fin 512) (l : Fin 2048) :
    wanted x y (ix2 r l) = ∑ k : Fin 2048, x (ix2 k r) * y (ix2 k l) := by
  pointwise [wanted]

end Cert.ReferenceIdeal.Whole

end
-- ==== Proof.ValueEquation.lean ====
/-
The equation: where device `c` is given block `c` of the whole `x` and `dy`, what it leaves in its result array is block `c` of
what the reference computes. The sum over four devices of 512 rows each is the sum over all 2048 rows.
-/
module

public import proofs.«01_k».proof.Proof.RingIdealLaunch
public import proofs.«01_k».proof.Proof.ValueDevice
public import proofs.«01_k».proof.Proof.ValueReference
public import Idealize.ShloMosaic.Lib.Layout
public import Idealize.ShloMosaic.Lib.Pipeline.ValueKit.Acc

@[expose] public section

noncomputable section

namespace Cert.KernelIdeal.Ring

open Cert.KernelIdeal Cert.KernelIdeal.Gen
open Idealize.ShloMosaic Idealize.ShloMosaic.TcCoe
open Cert.ReferenceIdeal.Whole (wanted wanted_at)

abbrev xTiles : Layout.Tiles ⟨2, ![512, 512]⟩ ⟨2, ![2048, 512]⟩ 0 4 := by decide
abbrev yTiles : Layout.Tiles ⟨2, ![512, 2048]⟩ ⟨2, ![2048, 2048]⟩ 0 4 := by decide
abbrev outTiles : Layout.Tiles ⟨2, ![128, 2048]⟩ ⟨2, ![512, 2048]⟩ 0 4 := by decide

/-- A sum over four devices of 512 rows each is a sum over 2048 rows. -/
theorem sum_rows (f : Fin 2048 → EReal) (g : Fin 4 → Fin 512 → EReal)
    (h : ∀ e k, ∀ r : Fin 2048, r.val = e.val * 512 + k.val → g e k = f r) : ∑ e : Fin 4, ∑ k : Fin 512, g e k = ∑ r : Fin 2048, f r := by
  let f' : ℕ → EReal := fun n => if hn : n < 2048 then f ⟨n, hn⟩ else 0
  have hg (e : Fin 4) (k : Fin 512) : g e k = f' (e.val * 512 + k.val) := by
    have hn : e.val * 512 + k.val < 2048 := by omega
    show _ = if hn : _ then _ else _
    rw [dif_pos hn]; exact h e k _ rfl
  have hf (r : Fin 2048) : f r = f' r.val := by
    show _ = if hn : _ then _ else _
    rw [dif_pos r.isLt]
  rw [Finset.sum_congr rfl fun e _ => Finset.sum_congr rfl fun k _ => hg e k, Finset.sum_congr rfl fun r _ => hf r]
  exact Fin.sum_univ_univ_mul_add 4 512 f'

variable (m : (ℓ : Loc nD τ sig) → Buf (Elt Ideal) ℓ) (ρ : Dev nD → PrngReg)

/-- A window of one block is its whole array: what is staged is the argument. -/
theorem xstg_whole (e : Dev nD) : xstg m ρ e = m ((e : Thread nD τ).loc main_arg0) :=
  Memref.read_access_unit_zero (Elt Ideal) main_arg0
    (show (fun a => (win0_0.index (0 : Fin 1)) a * main_arg0.ty.shape.size a) = fun _ => 0 from funext fun a => by fin_cases a <;> decide)
    (fun a => by fin_cases a <;> decide) _
theorem ystg_whole (e : Dev nD) : ystg m ρ e = m ((e : Thread nD τ).loc main_arg1) :=
  Memref.read_access_unit_zero (Elt Ideal) main_arg1
    (show (fun a => (win0_1.index (0 : Fin 1)) a * main_arg1.ty.shape.size a) = fun _ => 0 from funext fun a => by fin_cases a <;> decide)
    (fun a => by fin_cases a <;> decide) _

/-- The result array at the end is what the body left. -/
theorem finalA_out (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = t0_0.val + 1 from rfl, (dats m ρ 0 c).arrAt_succ (2 : Fin 3) t0_0, if_pos (flush0_2 t0_0)]
    exact View.read_write_univ _ _
  exact (Memref.read_access_unit_zero (Elt Ideal) main_v1
    (show (fun a => (win0_2.index (0 : Fin 1)) a * main_v1.ty.shape.size a) = fun _ => 0 from funext fun a => by fin_cases a <;> decide)
    (fun a => by fin_cases a <;> decide) _).symm.trans h

/-- Block `c` of the reference's result is what device `c` computes from blocks of the reference's arguments. -/
theorem out_block (x : FVec Ideal ⟨2, ![2048, 512]⟩ .bf16) (y : FVec Ideal ⟨2, ![2048, 2048]⟩ .bf16)
    (hx : ∀ e, xstg m ρ e = Layout.block ⟨2, ![512, 512]⟩ ⟨2, ![2048, 512]⟩ 0 4 e x)
    (hy : ∀ e, ystg m ρ e = Layout.block ⟨2, ![512, 2048]⟩ ⟨2, ![2048, 2048]⟩ 0 4 e y) (c : Dev nD) :
    outAt m ρ c = Layout.block ⟨2, ![128, 2048]⟩ ⟨2, ![512, 2048]⟩ 0 4 c (wanted x y) := by
  funext i
  obtain ⟨a, l, rfl⟩ : ∃ (a : Fin 128) (l : Fin 2048), i = ix2 a l := ⟨i 0, i 1, eq_ix2 i⟩
  have hr : 128 * c.val + a.val < 512 := by have hc : c.val < 4 := c.isLt; have := a.isLt; omega
  rw [Layout.block_apply]
  have hi : outTiles.idx c (ix2 a l) = ix2 (⟨128 * c.val + a.val, hr⟩ : Fin 512) l := by
    funext b; apply Fin.ext
    fin_cases b
    · show c.val * 128 + a.val = 128 * c.val + a.val; omega
    · rfl
  rw [hi]
  refine (out_sum m ρ _ _ hx hy c a l ⟨_, hr⟩ rfl).trans (Eq.trans ?_ (wanted_at x y ⟨_, hr⟩ l).symm)
  refine sum_rows _ _ fun e k r h => ?_
  have h0 (s : Fin 512) : xTiles.idx e (ix2 k s) = ix2 r s := by
    funext b; apply Fin.ext
    fin_cases b
    · exact h.symm
    · rfl
  have h1 (s : Fin 2048) : yTiles.idx e (ix2 k s) = ix2 r s := by
    funext b; apply Fin.ext
    fin_cases b
    · exact h.symm
    · rfl
  rw [Layout.block_apply, Layout.block_apply, h0, h1]

end Cert.KernelIdeal.Ring

end
-- ==== Proof.lean ====
/- The claims, assembled: the three programs run and leave their arguments and every semaphore as they found them; the kernel read in
   exact arithmetic is the kernel's own text; and in exact arithmetic the four devices' results are the blocks of the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RingKernelLaunch
public import proofs.«01_k».proof.Proof.RingIdealLaunch
public import proofs.«01_k».proof.Proof.ValueEquation
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem Cert.Kernel

/-- The kernel at the machine's floats. -/
theorem kernel_runs : Cert.quiescent_Kernel := fun m ρ _ =>
  (θ_run _ _ _).mono (fun _ h => ⟨fun c => ⟨(h.1 c 0).trans (Cert.Kernel.Ring.finalA_x m ρ c), (h.1 c 1).trans (Cert.Kernel.Ring.finalA_y m ρ c)⟩, h.2⟩)
    (Cert.Kernel.Ring.run_main (F := Bits) m ρ)

/-- The kernel in exact arithmetic. -/
theorem kernelIdeal_runs : Cert.quiescent_KernelIdeal := fun m ρ _ =>
  (θ_run _ _ _).mono (fun _ h => ⟨fun c => ⟨(h.1 c 0).trans (Cert.KernelIdeal.Ring.finalA_x m ρ c), (h.1 c 1).trans (Cert.KernelIdeal.Ring.finalA_y m ρ c)⟩, h.2⟩)
    (Cert.KernelIdeal.Ring.run_main (F := Ideal) m ρ)

/-- The reference in exact arithmetic; it has no semaphore. -/
theorem reference_runs : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run (F := Ideal) m ρ)

/-- Device `c`'s result is block `c` of the reference's. -/
theorem results_agree : Cert.algebraic_KernelIdeal_ReferenceIdeal := fun m ρ m' ρ' _ given => by
  refine ⟨Cert.ReferenceIdeal.Whole.wanted (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono
      (fun _ h c => ⟨(h.1 c 2).trans ((Cert.KernelIdeal.Ring.finalA_out m ρ c).trans
          (Cert.KernelIdeal.Ring.out_block m ρ _ _ (fun e => (Cert.KernelIdeal.Ring.xstg_whole m ρ e).trans (given e).1)
            (fun e => (Cert.KernelIdeal.Ring.ystg_whole m ρ e).trans (given e).2) c)),
        (h.1 c 0).trans (Cert.KernelIdeal.Ring.finalA_x m ρ c), (h.1 c 1).trans (Cert.KernelIdeal.Ring.finalA_y m ρ c)⟩)
      (Cert.KernelIdeal.Ring.run_main (F := Ideal) m ρ)
  · exact (θ_run _ _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  kernel_runs, kernelIdeal_runs, reference_runs, trivial, results_agree⟩

end Cert.Proof

end
